-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S4096x8192 : Shape := ⟨2, ![4096, 8192]⟩
abbrev S3x1024x8192 : Shape := ⟨3, ![3, 1024, 8192]⟩
abbrev S256x1024 : Shape := ⟨2, ![256, 1024]⟩
abbrev S256x4096 : Shape := ⟨2, ![256, 4096]⟩
abbrev S2x3x4 : Shape := ⟨3, ![2, 3, 4]⟩
abbrev S2 : Shape := ⟨1, ![2]⟩
abbrev S_ : Shape := ⟨0, ![]⟩
abbrev S1024x4096 : Shape := ⟨2, ![1024, 4096]⟩
abbrev S1x1x1 : Shape := ⟨3, ![1, 1, 1]⟩
abbrev S1x256x4096 : Shape := ⟨3, ![1, 256, 4096]⟩

abbrev nBuf : Space → Nat
  | .hbm => 7
  | .vmem => 5
  | .smem => 2
  | _ => 0

abbrev bufTy : (tb : Table) → Fin (tcTables nBuf tb) → BufTy
  | .hbm, ⟨0, _⟩ => ⟨S4096x1024, .i8⟩
  | .hbm, ⟨1, _⟩ => ⟨S1024x8192, .i8⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S3x1024x8192, .f32⟩
  | .hbm, ⟨6, _⟩ => ⟨S4096x8192, .f32⟩
  | .local _ .vmem, ⟨0, _⟩ => ⟨S1024x8192, .i8⟩
  | .local _ .vmem, ⟨1, _⟩ => ⟨S256x1024, .i8⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .smem, ⟨0, _⟩ => ⟨S1, .f32⟩
  | .local _ .smem, ⟨1, _⟩ => ⟨S1, .f32⟩
  | _, _ => ⟨S4096x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_6 : BitVec 32 := 1#32
  let v9 : BitVec 32 := Scalar.muli v4 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v17 : BitVec 32 := Scalar.muli v2 c1024_i32
  let v18 : BitVec 32 := Scalar.addi v17 c0_i32_12
  let c0_i32_14 : BitVec 32 := 0#32
  ![v18.toNat, 0]
def k0_off2 (d0 : Dev nD) (c0_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v17 : BitVec 32 := Scalar.muli v2 c1024_i32
  let v18 : BitVec 32 := Scalar.addi v17 c0_i32_12
  let c0_i32_23 : BitVec 32 := 0#32
  ![v18.toNat, 0]
def k0_off3 (d0 : Dev nD) (c0_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v17 : BitVec 32 := Scalar.muli v2 c1024_i32
  let v18 : BitVec 32 := Scalar.addi v17 c0_i32_12
  let c4096_i32 : BitVec 32 := 4096#32
  ![v18.toNat, 4096]
def k0_off4 (d0 : Dev nD) (c0_i32_37 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_33 : BitVec 32 := 0#32
  let v51 : BitVec 32 := Scalar.subi v2 c0_i32_33
  let c4_i32_34 : BitVec 32 := 4#32
  let v52 : BitVec 32 := Scalar.addi v51 c4_i32_34
  let c4_i32_35 : BitVec 32 := 4#32
  let v53 : BitVec 32 := Scalar.remsi v52 c4_i32_35
  let c1024_i32_36 : BitVec 32 := 1024#32
  let v54 : BitVec 32 := Scalar.muli v53 c1024_i32_36
  let v55 : BitVec 32 := Scalar.addi v54 c0_i32_37
  let c0_i32_49 : BitVec 32 := 0#32
  ![v55.toNat, 0]
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_45 : BitVec 32 := 1#32
  let v56 : BitVec 32 := Scalar.muli v4 c1_i32_45
  let v57 : BitVec 32 := Scalar.addi c0_i32_46 v56
  v57.toNat
def k0_off5 (d0 : Dev nD) (c0_i32_50 : BitVec 32) (c0_i32_53 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v65 : BitVec 32 := Scalar.addi v2 c0_i32_50
  let c4_i32_51 : BitVec 32 := 4#32
  let v66 : BitVec 32 := Scalar.remsi v65 c4_i32_51
  let c1024_i32_52 : BitVec 32 := 1024#32
  let v67 : BitVec 32 := Scalar.muli v66 c1024_i32_52
  let v68 : BitVec 32 := Scalar.addi v67 c0_i32_53
  let c4096_i32_65 : BitVec 32 := 4096#32
  ![v68.toNat, 4096]
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_61 : BitVec 32 := 1#32
  let v69 : BitVec 32 := Scalar.muli v7 c1_i32_61
  let v70 : BitVec 32 := Scalar.addi c0_i32_62 v69
  v70.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_103 : BitVec 32 := 1#32
  let v117 : BitVec 32 := Scalar.muli v4 c1_i32_103
  let v118 : BitVec 32 := Scalar.addi c0_i32_104 v117
  v118.toNat
def k0_dev6 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_119 : BitVec 32 := 1#32
  let v130 : BitVec 32 := Scalar.muli v7 c1_i32_119
  let v131 : BitVec 32 := Scalar.addi c0_i32_120 v130
  v131.toNat
def k0_dev7 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_161 : BitVec 32 := 1#32
  let v178 : BitVec 32 := Scalar.muli v4 c1_i32_161
  let v179 : BitVec 32 := Scalar.addi c0_i32_162 v178
  v179.toNat
def k0_dev8 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_177 : BitVec 32 := 1#32
  let v191 : BitVec 32 := Scalar.muli v7 c1_i32_177
  let v192 : BitVec 32 := Scalar.addi c0_i32_178 v191
  v192.toNat
def k0_dev9 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_218 : BitVec 32 := 1#32
  let v239 : BitVec 32 := Scalar.muli v4 c1_i32_218
  let v240 : BitVec 32 := Scalar.addi c0_i32_219 v239
  v240.toNat
def k0_dev10 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_234 : BitVec 32 := 1#32
  let v252 : BitVec 32 := Scalar.muli v7 c1_i32_234
  let v253 : BitVec 32 := Scalar.addi c0_i32_235 v252
  v253.toNat
def k0_off6 (d0 : Dev nD) (c0_i32_240 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1024_i32_239 : BitVec 32 := 1024#32
  let v261 : BitVec 32 := Scalar.muli v7 c1024_i32_239
  let v262 : BitVec 32 := Scalar.addi v261 c0_i32_240
  let c0_i32_242 : BitVec 32 := 0#32
  ![v262.toNat, 0]
def k0_off7 (d0 : Dev nD) (c0_i32_240 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1024_i32_239 : BitVec 32 := 1024#32
  let v261 : BitVec 32 := Scalar.muli v7 c1024_i32_239
  let v262 : BitVec 32 := Scalar.addi v261 c0_i32_240
  let c0_i32_253 : BitVec 32 := 0#32
  ![v262.toNat, 0]
def k0_off8 (d0 : Dev nD) (c0_i32_240 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1024_i32_239 : BitVec 32 := 1024#32
  let v261 : BitVec 32 := Scalar.muli v7 c1024_i32_239
  let v262 : BitVec 32 := Scalar.addi v261 c0_i32_240
  let c4096_i32_262 : BitVec 32 := 4096#32
  ![v262.toNat, 4096]
def k0_off9 (d0 : Dev nD) (c1_i32_0 : BitVec 32) (c0_i32_344 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c1024_i32_343 : BitVec 32 := 1024#32
  let v397 : BitVec 32 := Scalar.muli v4 c1024_i32_343
  let v398 : BitVec 32 := Scalar.addi v397 c0_i32_344
  let c0_i32_346 : BitVec 32 := 0#32
  ![v398.toNat, 0]
def k0_off10 (d0 : Dev nD) (c1_i32_0 : BitVec 32) (c0_i32_344 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c1024_i32_343 : BitVec 32 := 1024#32
  let v397 : BitVec 32 := Scalar.muli v4 c1024_i32_343
  let v398 : BitVec 32 := Scalar.addi v397 c0_i32_344
  let c0_i32_357 : BitVec 32 := 0#32
  ![v398.toNat, 0]
def k0_off11 (d0 : Dev nD) (c0_i32_459 : BitVec 32) (c0_i32_464 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v540 : BitVec 32 := Scalar.subi v2 c0_i32_459
  let c1_i32_460 : BitVec 32 := 1#32
  let v541 : BitVec 32 := Scalar.subi v540 c1_i32_460
  let c4_i32_461 : BitVec 32 := 4#32
  let v542 : BitVec 32 := Scalar.addi v541 c4_i32_461
  let c4_i32_462 : BitVec 32 := 4#32
  let v543 : BitVec 32 := Scalar.remsi v542 c4_i32_462
  let c1024_i32_463 : BitVec 32 := 1024#32
  let v544 : BitVec 32 := Scalar.muli v543 c1024_i32_463
  let v545 : BitVec 32 := Scalar.addi v544 c0_i32_464
  let c0_i32_470 : BitVec 32 := 0#32
  ![v545.toNat, 0]
def k0_dev11 (d0 : Dev nD) : Nat :=
  let c0_i32_500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_499 : BitVec 32 := 1#32
  let v574 : BitVec 32 := Scalar.muli v4 c1_i32_499
  let v575 : BitVec 32 := Scalar.addi c0_i32_500 v574
  v575.toNat
def k0_off12 (d0 : Dev nD) (c0_i32_517 : BitVec 32) (c0_i32_521 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v591 : BitVec 32 := Scalar.addi v2 c0_i32_517
  let c1_i32_518 : BitVec 32 := 1#32
  let v592 : BitVec 32 := Scalar.addi v591 c1_i32_518
  let c4_i32_519 : BitVec 32 := 4#32
  let v593 : BitVec 32 := Scalar.remsi v592 c4_i32_519
  let c1024_i32_520 : BitVec 32 := 1024#32
  let v594 : BitVec 32 := Scalar.muli v593 c1024_i32_520
  let v595 : BitVec 32 := Scalar.addi v594 c0_i32_521
  let c4096_i32_527 : BitVec 32 := 4096#32
  ![v595.toNat, 4096]
def k0_dev12 (d0 : Dev nD) : Nat :=
  let c0_i32_557 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_556 : BitVec 32 := 1#32
  let v624 : BitVec 32 := Scalar.muli v7 c1_i32_556
  let v625 : BitVec 32 := Scalar.addi c0_i32_557 v624
  v625.toNat
def k0_dev13 (d0 : Dev nD) : Nat :=
  let c0_i32_615 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_614 : BitVec 32 := 1#32
  let v675 : BitVec 32 := Scalar.muli v4 c1_i32_614
  let v676 : BitVec 32 := Scalar.addi c0_i32_615 v675
  v676.toNat
def k0_dev14 (d0 : Dev nD) : Nat :=
  let c0_i32_672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_671 : BitVec 32 := 1#32
  let v725 : BitVec 32 := Scalar.muli v7 c1_i32_671
  let v726 : BitVec 32 := Scalar.addi c0_i32_672 v725
  v726.toNat
def k0_dev15 (d0 : Dev nD) : Nat :=
  let c0_i32_730 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_729 : BitVec 32 := 1#32
  let v776 : BitVec 32 := Scalar.muli v4 c1_i32_729
  let v777 : BitVec 32 := Scalar.addi c0_i32_730 v776
  v777.toNat
def k0_dev16 (d0 : Dev nD) : Nat :=
  let c0_i32_787 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_786 : BitVec 32 := 1#32
  let v826 : BitVec 32 := Scalar.muli v7 c1_i32_786
  let v827 : BitVec 32 := Scalar.addi c0_i32_787 v826
  v827.toNat
def k0_dev17 (d0 : Dev nD) : Nat :=
  let c0_i32_845 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_844 : BitVec 32 := 1#32
  let v877 : BitVec 32 := Scalar.muli v4 c1_i32_844
  let v878 : BitVec 32 := Scalar.addi c0_i32_845 v877
  v878.toNat
def k0_dev18 (d0 : Dev nD) : Nat :=
  let c0_i32_902 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_901 : BitVec 32 := 1#32
  let v927 : BitVec 32 := Scalar.muli v7 c1_i32_901
  let v928 : BitVec 32 := Scalar.addi c0_i32_902 v927
  v928.toNat
def k0_dev19 (d0 : Dev nD) : Nat :=
  let c0_i32_1074 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1073 : BitVec 32 := 1#32
  let v1123 : BitVec 32 := Scalar.muli v4 c1_i32_1073
  let v1124 : BitVec 32 := Scalar.addi c0_i32_1074 v1123
  v1124.toNat
def k0_dev20 (d0 : Dev nD) : Nat :=
  let c0_i32_1133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1132 : BitVec 32 := 1#32
  let v1174 : BitVec 32 := Scalar.muli v7 c1_i32_1132
  let v1175 : BitVec 32 := Scalar.addi c0_i32_1133 v1174
  v1175.toNat
def k0_dev21 (d0 : Dev nD) : Nat :=
  let c0_i32_1193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1192 : BitVec 32 := 1#32
  let v1226 : BitVec 32 := Scalar.muli v4 c1_i32_1192
  let v1227 : BitVec 32 := Scalar.addi c0_i32_1193 v1226
  v1227.toNat
def k0_dev22 (d0 : Dev nD) : Nat :=
  let c0_i32_1252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1251 : BitVec 32 := 1#32
  let v1277 : BitVec 32 := Scalar.muli v7 c1_i32_1251
  let v1278 : BitVec 32 := Scalar.addi c0_i32_1252 v1277
  v1278.toNat
def k0_dev23 (d0 : Dev nD) : Nat :=
  let c0_i32_1312 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1311 : BitVec 32 := 1#32
  let v1329 : BitVec 32 := Scalar.muli v4 c1_i32_1311
  let v1330 : BitVec 32 := Scalar.addi c0_i32_1312 v1329
  v1330.toNat
def k0_dev24 (d0 : Dev nD) : Nat :=
  let c0_i32_1371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1370 : BitVec 32 := 1#32
  let v1380 : BitVec 32 := Scalar.muli v7 c1_i32_1370
  let v1381 : BitVec 32 := Scalar.addi c0_i32_1371 v1380
  v1381.toNat
def k0_dev25 (d0 : Dev nD) : Nat :=
  let c0_i32_1431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1430 : BitVec 32 := 1#32
  let v1432 : BitVec 32 := Scalar.muli v4 c1_i32_1430
  let v1433 : BitVec 32 := Scalar.addi c0_i32_1431 v1432
  v1433.toNat
def k0_dev26 (d0 : Dev nD) : Nat :=
  let c0_i32_1490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1489 : BitVec 32 := 1#32
  let v1483 : BitVec 32 := Scalar.muli v7 c1_i32_1489
  let v1484 : BitVec 32 := Scalar.addi c0_i32_1490 v1483
  v1484.toNat
def k0_off13 (d0 : Dev nD) (c0_i32_1544 : BitVec 32) (c0_i32_1548 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1543 : BitVec 32 := 1#32
  let v1548 : BitVec 32 := Scalar.addi v2 c1_i32_1543
  let v1549 : BitVec 32 := Scalar.subi v1548 c0_i32_1544
  let c4_i32_1545 : BitVec 32 := 4#32
  let v1550 : BitVec 32 := Scalar.addi v1549 c4_i32_1545
  let c4_i32_1546 : BitVec 32 := 4#32
  let v1551 : BitVec 32 := Scalar.remsi v1550 c4_i32_1546
  let c1024_i32_1547 : BitVec 32 := 1024#32
  let v1552 : BitVec 32 := Scalar.muli v1551 c1024_i32_1547
  let v1553 : BitVec 32 := Scalar.addi v1552 c0_i32_1548
  let c0_i32_1557 : BitVec 32 := 0#32
  ![v1553.toNat, 0]
def k0_dev27 (d0 : Dev nD) : Nat :=
  let c0_i32_1556 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1555 : BitVec 32 := 1#32
  let v1554 : BitVec 32 := Scalar.muli v4 c1_i32_1555
  let v1555 : BitVec 32 := Scalar.addi c0_i32_1556 v1554
  v1555.toNat
def k0_off14 (d0 : Dev nD) (c0_i32_1607 : BitVec 32) (c0_i32_1611 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1606 : BitVec 32 := 1#32
  let v1616 : BitVec 32 := Scalar.subi v2 c1_i32_1606
  let v1617 : BitVec 32 := Scalar.addi v1616 c0_i32_1607
  let c4_i32_1608 : BitVec 32 := 4#32
  let v1618 : BitVec 32 := Scalar.addi v1617 c4_i32_1608
  let c4_i32_1609 : BitVec 32 := 4#32
  let v1619 : BitVec 32 := Scalar.remsi v1618 c4_i32_1609
  let c1024_i32_1610 : BitVec 32 := 1024#32
  let v1620 : BitVec 32 := Scalar.muli v1619 c1024_i32_1610
  let v1621 : BitVec 32 := Scalar.addi v1620 c0_i32_1611
  let c4096_i32_1620 : BitVec 32 := 4096#32
  ![v1621.toNat, 4096]
def k0_dev28 (d0 : Dev nD) : Nat :=
  let c0_i32_1619 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1618 : BitVec 32 := 1#32
  let v1622 : BitVec 32 := Scalar.muli v7 c1_i32_1618
  let v1623 : BitVec 32 := Scalar.addi c0_i32_1619 v1622
  v1623.toNat
def k0_dev29 (d0 : Dev nD) : Nat :=
  let c0_i32_1683 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1682 : BitVec 32 := 1#32
  let v1691 : BitVec 32 := Scalar.muli v4 c1_i32_1682
  let v1692 : BitVec 32 := Scalar.addi c0_i32_1683 v1691
  v1692.toNat
def k0_dev30 (d0 : Dev nD) : Nat :=
  let c0_i32_1746 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1745 : BitVec 32 := 1#32
  let v1759 : BitVec 32 := Scalar.muli v7 c1_i32_1745
  let v1760 : BitVec 32 := Scalar.addi c0_i32_1746 v1759
  v1760.toNat
def k0_dev31 (d0 : Dev nD) : Nat :=
  let c0_i32_1810 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1809 : BitVec 32 := 1#32
  let v1828 : BitVec 32 := Scalar.muli v4 c1_i32_1809
  let v1829 : BitVec 32 := Scalar.addi c0_i32_1810 v1828
  v1829.toNat
def k0_dev32 (d0 : Dev nD) : Nat :=
  let c0_i32_1873 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1872 : BitVec 32 := 1#32
  let v1896 : BitVec 32 := Scalar.muli v7 c1_i32_1872
  let v1897 : BitVec 32 := Scalar.addi c0_i32_1873 v1896
  v1897.toNat
def k0_dev33 (d0 : Dev nD) : Nat :=
  let c0_i32_1937 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1936 : BitVec 32 := 1#32
  let v1965 : BitVec 32 := Scalar.muli v4 c1_i32_1936
  let v1966 : BitVec 32 := Scalar.addi c0_i32_1937 v1965
  v1966.toNat
def k0_dev34 (d0 : Dev nD) : Nat :=
  let c0_i32_2000 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1999 : BitVec 32 := 1#32
  let v2033 : BitVec 32 := Scalar.muli v7 c1_i32_1999
  let v2034 : BitVec 32 := Scalar.addi c0_i32_2000 v2033
  v2034.toNat
def k0_dev35 (d0 : Dev nD) : Nat :=
  let c0_i32_2026 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2025 : BitVec 32 := 1#32
  let v2053 : BitVec 32 := Scalar.muli v4 c1_i32_2025
  let v2054 : BitVec 32 := Scalar.addi c0_i32_2026 v2053
  v2054.toNat
def k0_dev36 (d0 : Dev nD) : Nat :=
  let c0_i32_2052 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2051 : BitVec 32 := 1#32
  let v2073 : BitVec 32 := Scalar.muli v7 c1_i32_2051
  let v2074 : BitVec 32 := Scalar.addi c0_i32_2052 v2073
  v2074.toNat
def k0_dev37 (d0 : Dev nD) : Nat :=
  let c0_i32_2078 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2077 : BitVec 32 := 1#32
  let v2093 : BitVec 32 := Scalar.muli v4 c1_i32_2077
  let v2094 : BitVec 32 := Scalar.addi c0_i32_2078 v2093
  v2094.toNat
def k0_dev38 (d0 : Dev nD) : Nat :=
  let c0_i32_2104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2103 : BitVec 32 := 1#32
  let v2113 : BitVec 32 := Scalar.muli v7 c1_i32_2103
  let v2114 : BitVec 32 := Scalar.addi c0_i32_2104 v2113
  v2114.toNat
def k0_dev39 (d0 : Dev nD) : Nat :=
  let c0_i32_2130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2129 : BitVec 32 := 1#32
  let v2133 : BitVec 32 := Scalar.muli v4 c1_i32_2129
  let v2134 : BitVec 32 := Scalar.addi c0_i32_2130 v2133
  v2134.toNat
def k0_dev40 (d0 : Dev nD) : Nat :=
  let c0_i32_2156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2155 : BitVec 32 := 1#32
  let v2153 : BitVec 32 := Scalar.muli v7 c1_i32_2155
  let v2154 : BitVec 32 := Scalar.addi c0_i32_2156 v2153
  v2154.toNat
def k0_dev41 (d0 : Dev nD) : Nat :=
  let c0_i32_2182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2181 : BitVec 32 := 1#32
  let v2173 : BitVec 32 := Scalar.muli v4 c1_i32_2181
  let v2174 : BitVec 32 := Scalar.addi c0_i32_2182 v2173
  v2174.toNat
def k0_dev42 (d0 : Dev nD) : Nat :=
  let c0_i32_2208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2207 : BitVec 32 := 1#32
  let v2193 : BitVec 32 := Scalar.muli v7 c1_i32_2207
  let v2194 : BitVec 32 := Scalar.addi c0_i32_2208 v2193
  v2194.toNat
def k0_dev43 (d0 : Dev nD) : Nat :=
  let c0_i32_2234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2233 : BitVec 32 := 1#32
  let v2213 : BitVec 32 := Scalar.muli v4 c1_i32_2233
  let v2214 : BitVec 32 := Scalar.addi c0_i32_2234 v2213
  v2214.toNat
def k0_dev44 (d0 : Dev nD) : Nat :=
  let c0_i32_2260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2259 : BitVec 32 := 1#32
  let v2233 : BitVec 32 := Scalar.muli v7 c1_i32_2259
  let v2234 : BitVec 32 := Scalar.addi c0_i32_2260 v2233
  v2234.toNat
def k0_dev45 (d0 : Dev nD) : Nat :=
  let c0_i32_2286 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2285 : BitVec 32 := 1#32
  let v2253 : BitVec 32 := Scalar.muli v4 c1_i32_2285
  let v2254 : BitVec 32 := Scalar.addi c0_i32_2286 v2253
  v2254.toNat
def k0_dev46 (d0 : Dev nD) : Nat :=
  let c0_i32_2312 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2311 : BitVec 32 := 1#32
  let v2273 : BitVec 32 := Scalar.muli v7 c1_i32_2311
  let v2274 : BitVec 32 := Scalar.addi c0_i32_2312 v2273
  v2274.toNat
def k0_dev47 (d0 : Dev nD) : Nat :=
  let c0_i32_2338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2337 : BitVec 32 := 1#32
  let v2293 : BitVec 32 := Scalar.muli v4 c1_i32_2337
  let v2294 : BitVec 32 := Scalar.addi c0_i32_2338 v2293
  v2294.toNat
def k0_dev48 (d0 : Dev nD) : Nat :=
  let c0_i32_2364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2363 : BitVec 32 := 1#32
  let v2313 : BitVec 32 := Scalar.muli v7 c1_i32_2363
  let v2314 : BitVec 32 := Scalar.addi c0_i32_2364 v2313
  v2314.toNat
def k0_dev49 (d0 : Dev nD) : Nat :=
  let c0_i32_2390 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2389 : BitVec 32 := 1#32
  let v2333 : BitVec 32 := Scalar.muli v4 c1_i32_2389
  let v2334 : BitVec 32 := Scalar.addi c0_i32_2390 v2333
  v2334.toNat
def k0_dev50 (d0 : Dev nD) : Nat :=
  let c0_i32_2416 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2415 : BitVec 32 := 1#32
  let v2353 : BitVec 32 := Scalar.muli v7 c1_i32_2415
  let v2354 : BitVec 32 := Scalar.addi c0_i32_2416 v2353
  v2354.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Bits.Equal.lean ====
module

public import proofs.«01_k».proof.Proof.Bits.Plain

@[expose] public section
noncomputable section

namespace Cert.Kernel.Plain

open Idealize.ShloMosaic Idealize.SL.Sem
open Cert.Kernel.Gen

variable {F : FTy → Type} [FloatOps F]

theorem op_congr {E : Type → Type} {α β : Type} {e e' : E β} {k k' : β → Prog E α} (he : e = e') (hk : ∀ x, k x = k' x) :
    Prog.op e k = Prog.op e' k' := by subst he; exact congrArg _ (funext hk)

set_option maxRecDepth 200000 in
set_option maxHeartbeats 0 in
theorem body_eq : (bodyAt0 t0_0 : P (F := F) PUnit) = (Prog.lift .deviceId).bind fun c => body (offs c) (nbr c) := by
  refine op_congr rfl fun c => ?_
  repeat refine op_congr rfl fun _ => ?_
  rfl

end Cert.Kernel.Plain
-- ==== Proof.Plain.lean ====
/- The kernel's body written with loops: the same effects in the same order, each fragment (a tile of the
   product, a transfer to a neighbour, one step of the ring) written once. -/
module

public import proofs.«01_k».proof.Proof.Gen.KernelIdeal.Skeleton
public import proofs.«01_k».proof.Proof.Gen.KernelIdeal.Points
public import proofs.«01_k».proof.Proof.Gen.KernelIdeal.Launch

@[expose] public section
noncomputable section

namespace Cert.KernelIdeal.Plain

open Idealize.ShloMosaic Idealize.SL.Sem
open Cert.KernelIdeal.Gen

variable {F : FTy → Type} [FloatOps F]

/-! ## Operands -/

abbrev xM : Memref sig .tc .hbm S4096x1024 .i8 := Memref.whole main_arg0
abbrev wM : Memref sig .tc .hbm S1024x8192 .i8 := Memref.whole main_arg1
abbrev sxM : Memref sig .tc .smem S1 .f32 := win0_0.stage (cfg0.slots t0_0 0)
abbrev swM : Memref sig .tc .smem S1 .f32 := win0_1.stage (cfg0.slots t0_0 1)
abbrev outM : Memref sig .tc .hbm S4096x8192 .f32 := Memref.whole main_v1_0
abbrev comM : Memref sig .tc .hbm S3x1024x8192 .f32 := Memref.whole main_v1_1
abbrev parM : Memref sig .tc .hbm S4096x8192 .f32 := Memref.whole main_v1_2
abbrev wV : Memref sig .tc .vmem S1024x8192 .i8 := Memref.whole cc0_scratch0
abbrev xV : Memref sig .tc .vmem S256x1024 .i8 := Memref.whole cc0_scratch1
abbrev gV : Memref sig .tc .vmem S256x4096 .f32 := Memref.whole cc0_scratch2
abbrev aV : Memref sig .tc .vmem S256x4096 .f32 := Memref.whole cc0_scratch3
abbrev bV : Memref sig .tc .vmem S256x4096 .f32 := Memref.whole cc0_scratch4

/-! ## Semaphores: of direction `d`, step `s`, row tile `q` -/

/-- The barrier semaphore. -/
abbrev bar : Sem sig := sig.barrier 0 rfl
/-- The two semaphores of the local copies. -/
def locS (i : Fin 2) : DmaSem sig := ⟨98 + i.val, by have := i.isLt; show _ < 100; omega⟩
def cellIx (base : ℕ) (d : Fin 2) (s : Fin 3) (q : Fin 4) : ℕ := base + (12 * d.val + 4 * s.val + q.val)
theorem cellIx_lt (base : ℕ) (hb : base ≤ 74) (d : Fin 2) (s : Fin 3) (q : Fin 4) : cellIx base d s q < 100 := by
  have := d.isLt; have := s.isLt; have := q.isLt; unfold cellIx; omega
/-- The reduce phase's departures and arrivals, -/
def rsS (d : Fin 2) (s : Fin 3) (q : Fin 4) : DmaSem sig := ⟨cellIx 2 d s q, cellIx_lt 2 (by decide) d s q⟩
def rsR (d : Fin 2) (s : Fin 3) (q : Fin 4) : DmaSem sig := ⟨cellIx 26 d s q, cellIx_lt 26 (by decide) d s q⟩
/-- and the gather phase's. -/
def agS (d : Fin 2) (t : Fin 3) (q : Fin 4) : DmaSem sig := ⟨cellIx 50 d t q, cellIx_lt 50 (by decide) d t q⟩
def agR (d : Fin 2) (t : Fin 3) (q : Fin 4) : DmaSem sig := ⟨cellIx 74 d t q, cellIx_lt 74 (by decide) d t q⟩

/-! ## Tiles -/

/-- Where a 256 × 1024 tile of `x` starts. -/
abbrev XOff := {o : Fin 2 → ℕ // ∃ h : ∀ a, o a + S256x1024.size a ≤ S4096x1024.size a,
  (Rect.unit (s := S4096x1024) o S256x1024.size h).WholeWords (EltTy.packing .i8)}
/-- Where a 256 × 4096 tile of a 4096 × 8192 array starts. -/
abbrev HOff := {o : Fin 2 → ℕ // ∀ a, o a + S256x4096.size a ≤ S4096x8192.size a}

def xT (o : XOff) : Memref sig .tc .hbm S256x1024 .i8 :=
  xM.slice (Rect.unit (s := S4096x1024) o.1 S256x1024.size o.2.1) (fun _ => rfl)
theorem xT_word (o : XOff) : (xT o).view.WordExact :=
  (Memref.isWhole_whole main_arg0).wordExact_slice rfl _ o.2.2
def hT (M : Memref sig .tc .hbm S4096x8192 .f32) (o : HOff) : Memref sig .tc .hbm S256x4096 .f32 :=
  M.slice (Rect.unit (s := S4096x8192) o.1 S256x4096.size o.2) (fun _ => rfl)
theorem hT_word (M : Memref sig .tc .hbm S4096x8192 .f32) (o : HOff) : (hT M o).view.WordExact := View.wordExact_bits rfl
theorem cT_inb (s : Fin 3) (q : Fin 4) (d : Fin 2) :
    ∀ a, (![s.val, 256 * q.val, 4096 * d.val] : Fin 3 → ℕ) a + S1x256x4096.size a ≤ S3x1024x8192.size a := by
  revert s q d; decide +kernel
/-- The landing tile of step `s`, row tile `q`, direction `d`. -/
def cT (s : Fin 3) (q : Fin 4) (d : Fin 2) : Memref sig .tc .hbm S256x4096 .f32 :=
  (comM.slice (Rect.unit (s := S3x1024x8192) ![s.val, 256 * q.val, 4096 * d.val] S1x256x4096.size (cT_inb s q d))
    (fun _ => rfl)).squeeze S256x4096 squeezes_S1x256x4096_S256x4096
theorem cT_word (s : Fin 3) (q : Fin 4) (d : Fin 2) : (cT s q d).view.WordExact := (View.wordExact_bits rfl).reshape _ _
theorem wM_word : wM.view.WordExact := (Memref.isWhole_whole main_arg1).wordExact
theorem wV_word : wV.view.WordExact := (Memref.isWhole_whole cc0_scratch0).wordExact
theorem xV_word : xV.view.WordExact := (Memref.isWhole_whole cc0_scratch1).wordExact
theorem gV_word : gV.view.WordExact := (Memref.isWhole_whole cc0_scratch2).wordExact
theorem aV_word : aV.view.WordExact := (Memref.isWhole_whole cc0_scratch3).wordExact
theorem bV_word : bV.view.WordExact := (Memref.isWhole_whole cc0_scratch4).wordExact

/-- Every offset the program computes from its device: tiles of `x` and of the partial product by the place
    of their chunk in the order of computation, the first sources, the tiles of step `s` and of gather step `t`. -/
structure Offs where
  x : Fin 4 → Fin 4 → XOff
  p : Fin 4 → Fin 2 → Fin 4 → HOff
  s : Fin 2 → Fin 4 → HOff
  r : Fin 3 → Fin 2 → Fin 4 → HOff
  a : Fin 3 → Fin 2 → Fin 4 → HOff

/-! ## Values -/

/-- A tile of the partial product, -/
def dotV (x : Vec F S256x1024 .i8) (w : Vec F S1024x4096 .i8) : FVec F S256x4096 .f32 := k0_pay2 (k0_pay1 x) w
/-- the sum of the running sum and the tile, -/
def addV (a b : Vec F S256x4096 .f32) : FVec F S256x4096 .f32 := k0_pay69 (k0_pay68 a b)
/-- and the result from the last sum. -/
def epiV (a b : Vec F S256x4096 .f32) (sx sw : Elt F .f32) : FVec F S256x4096 .f32 := k0_pay78 a b sx sw

/-! ## Fragments -/

abbrev P := Prog (TpuEff nD τ sig (Elt F) Λ₀ .tc)

/-- `f 0`, …, `f (n - 1)` in order. -/
def loop : (n : ℕ) → (Fin n → P (F := F) PUnit) → P (F := F) PUnit
  | 0, _ => .ret ⟨⟩
  | n + 1, f => (f 0).bind fun _ => loop n fun i => f i.succ

abbrev wAll : Rect S256x4096 := Rect.unit (s := S256x4096) ![0, 0] S256x4096.size inb_S256x4096_S256x4096_0_0
theorem half_inb (d : Fin 2) : ∀ a, (![0, 4096 * d.val] : Fin 2 → ℕ) a + S1024x4096.size a ≤ S1024x8192.size a := by
  revert d; decide +kernel
abbrev half (d : Fin 2) : Rect S1024x8192 := Rect.unit (s := S1024x8192) ![0, 4096 * d.val] S1024x4096.size (half_inb d)

def ldV (m : Memref sig .tc .vmem S256x4096 .f32) : P (F := F) (Vec F S256x4096 .f32) :=
  Prog.lift (.load m wAll.toLoadRect (View.loadsAt_vmem h_S256x4096))
def stV (m : Memref sig .tc .vmem S256x4096 .f32) (v : Vec F S256x4096 .f32) : P (F := F) PUnit :=
  Prog.lift (.store m wAll v Finset.univ (View.stores_vmem_bits_univ h_S256x4096 rfl) (.inl rfl))

/-- Copy between the memory spaces of the device and wait for the copy. -/
def cpHV {s : Shape} {e : EltTy} (i : Fin 2) (src : Memref sig .tc .hbm s e) (dst : Memref sig .tc .vmem s e)
    (h₁ : src.view.WordExact) (h₂ : dst.view.WordExact) : P (F := F) PUnit := do
  Prog.lift (.enqueueDma src (.here dst) (.dma (locS i)) h₁ h₂ ⟨Or.inl rfl, trivial⟩)
  Prog.lift (.waitDma2 (locS i) src dst h₁ h₂)
def cpVH {s : Shape} {e : EltTy} (i : Fin 2) (src : Memref sig .tc .vmem s e) (dst : Memref sig .tc .hbm s e)
    (h₁ : src.view.WordExact) (h₂ : dst.view.WordExact) : P (F := F) PUnit := do
  Prog.lift (.enqueueDma src (.here dst) (.dma (locS i)) h₁ h₂ ⟨Or.inl rfl, trivial⟩)
  Prog.lift (.waitDma2 (locS i) src dst h₁ h₂)

/-- One half of a tile of the partial product, from the rows of `x` read before. -/
def gemmHalf (v : Vec F S256x1024 .i8) (d : Fin 2) (o : HOff) : P (F := F) PUnit := do
  let w : Vec F S1024x4096 .i8 ← Prog.lift (.load wV (half d).toLoadRect (View.loadsAt_vmem h_S1024x4096))
  let _ ← ldV gV
  stV gV (dotV v w)
  cpVH 1 gV (hT parM o) gV_word (hT_word _ o)

/-- A tile of the partial product. -/
def gemm (ox : XOff) (o₀ o₁ : HOff) : P (F := F) PUnit := do
  cpHV 0 (xT ox) xV (xT_word ox) xV_word
  let v : Vec F S256x1024 .i8 ← Prog.lift
    (.load xV (Rect.unit (s := S256x1024) ![0, 0] S256x1024.size inb_S256x1024_S256x1024_0_0).toLoadRect (View.loadsAt_vmem h_S256x1024))
  gemmHalf v 0 o₀
  gemmHalf v 1 o₁

/-- Send a tile to a neighbour. -/
def send (n : Dev nD) (src dst : Memref sig .tc .hbm S256x4096 .f32) (h₁ : src.view.WordExact) (h₂ : dst.view.WordExact)
    (sS sR : DmaSem sig) : P (F := F) PUnit :=
  Prog.lift (.enqueueDma src (.remote (Dev.tc n) dst (.dma sS)) (.dma sR) h₁ h₂ ⟨⟨rfl, Or.inl rfl⟩, trivial⟩)
/-- Wait for a tile's transfer. -/
def wait (src dst : Memref sig .tc .hbm S256x4096 .f32) (h₁ : src.view.WordExact) (h₂ : dst.view.WordExact)
    (s : DmaSem sig) : P (F := F) PUnit :=
  Prog.lift (.waitDma2 s src dst h₁ h₂)

def send0 (n : Dev nD) (o : HOff) (d : Fin 2) (q : Fin 4) : P (F := F) PUnit :=
  send n (hT parM o) (cT 0 q d) (hT_word _ o) (cT_word 0 q d) (rsS d 0 q) (rsR d 0 q)
def sendRS (n : Dev nD) (d : Fin 2) (s : Fin 2) (q : Fin 4) : P (F := F) PUnit :=
  send n (cT s.castSucc q d) (cT s.succ q d) (cT_word _ q d) (cT_word _ q d) (rsS d s.succ q) (rsR d s.succ q)
def sendAG (n : Dev nD) (o : HOff) (d : Fin 2) (t : Fin 3) (q : Fin 4) : P (F := F) PUnit :=
  send n (hT outM o) (hT outM o) (hT_word _ o) (hT_word _ o) (agS d t q) (agR d t q)

/-- Read the running sum and the tile. -/
def readAB (s : Fin 3) (d : Fin 2) (q : Fin 4) (o : HOff) : P (F := F) PUnit := do
  Prog.lift (.enqueueDma (cT s q d) (.here aV) (.dma (locS 0)) (cT_word s q d) aV_word ⟨Or.inl rfl, trivial⟩)
  Prog.lift (.enqueueDma (hT parM o) (.here bV) (.dma (locS 1)) (hT_word _ o) bV_word ⟨Or.inl rfl, trivial⟩)
  Prog.lift (.waitDma2 (locS 0) (cT s q d) aV (cT_word s q d) aV_word)
  Prog.lift (.waitDma2 (locS 1) (hT parM o) bV (hT_word _ o) bV_word)

/-- Add the own tile to the running sum, -/
def rsAdd (s : Fin 3) (d : Fin 2) (q : Fin 4) (o : HOff) : P (F := F) PUnit := do
  readAB s d q o
  let a ← ldV aV
  let b ← ldV bV
  let _ ← ldV aV
  stV aV (addV a b)
  cpVH 0 aV (cT s q d) aV_word (cT_word s q d)

/-- and, after the last sum, write the result. -/
def rsFin (d : Fin 2) (q : Fin 4) (o : HOff) : P (F := F) PUnit := do
  readAB 2 d q o
  let a ← ldV aV
  let b ← ldV bV
  let v₁ : Elt F .f32 ← smemLoad sxM (Rect.unit (s := S1) ![0] S1.size inb_S1_S1_0) numel1_S1 rfl
  let v₂ : Elt F .f32 ← smemLoad swM (Rect.unit (s := S1) ![0] S1.size inb_S1_S1_0) numel1_S1 rfl
  let _ ← ldV gV
  stV gV (epiV a b v₁ v₂)
  cpVH 0 gV (hT outM o) gV_word (hT_word _ o)

/-- One step of the ring: of step 0 the wait names the tile the step before sent, -/
def step0 (n : Dev nD) (os o : HOff) (q : Fin 4) (d : Fin 2) : P (F := F) PUnit := do
  wait (hT parM os) (cT 0 q d) (hT_word _ os) (cT_word 0 q d) (rsR d 0 q)
  rsAdd 0 d q o
  sendRS n d 0 q
def step1 (n : Dev nD) (o : HOff) (q : Fin 4) (d : Fin 2) : P (F := F) PUnit := do
  wait (cT 0 q d) (cT 1 q d) (cT_word 0 q d) (cT_word 1 q d) (rsR d 1 q)
  rsAdd 1 d q o
  sendRS n d 1 q
def step2 (n : Dev nD) (o oa : HOff) (q : Fin 4) (d : Fin 2) : P (F := F) PUnit := do
  wait (cT 1 q d) (cT 2 q d) (cT_word 1 q d) (cT_word 2 q d) (rsR d 2 q)
  rsFin d q o
  sendAG n oa d 0 q
/-- of the gather phase a tile received is sent on, -/
def stepG (n : Dev nD) (t : Fin 2) (o o' : HOff) (q : Fin 4) (d : Fin 2) : P (F := F) PUnit := do
  wait (hT outM o) (hT outM o) (hT_word _ o) (hT_word _ o) (agR d t.castSucc q)
  sendAG n o' d t.succ q
def stepL (o : HOff) (q : Fin 4) (d : Fin 2) : P (F := F) PUnit :=
  wait (hT outM o) (hT outM o) (hT_word _ o) (hT_word _ o) (agR d 2 q)

/-- and at the end every departure is awaited. -/
def endRS0 (o : HOff) (q : Fin 4) (d : Fin 2) : P (F := F) PUnit :=
  wait (cT 0 q d) (hT parM o) (cT_word 0 q d) (hT_word _ o) (rsS d 0 q)
def endRS (s : Fin 2) (q : Fin 4) (d : Fin 2) : P (F := F) PUnit :=
  wait (cT s.succ q d) (cT s.castSucc q d) (cT_word _ q d) (cT_word _ q d) (rsS d s.succ q)
def endAG (o : HOff) (t : Fin 3) (q : Fin 4) (d : Fin 2) : P (F := F) PUnit :=
  wait (hT outM o) (hT outM o) (hT_word _ o) (hT_word _ o) (agS d t q)

/-- For every row tile, both directions. -/
def loop2 (f : Fin 4 → Fin 2 → P (F := F) PUnit) : P (F := F) PUnit := loop 4 fun q => loop 2 fun d => f q d

/-- The body after the device is read. -/
def body (o : Offs) (n : Fin 2 → Dev nD) : P (F := F) PUnit := do
  semSignalWord (n 0) bar 1#32
  semSignalWord (n 1) bar 1#32
  semWaitWord bar 2#32
  cpHV 0 wM wV wM_word wV_word
  loop 4 fun q => do
    gemm (o.x 0 q) (o.p 0 0 q) (o.p 0 1 q)
    loop 2 fun d => send0 (n d) (o.s d q) d q
  loop 4 fun q => gemm (o.x 1 q) (o.p 1 0 q) (o.p 1 1 q)
  loop 4 fun q => gemm (o.x 2 q) (o.p 2 0 q) (o.p 2 1 q)
  loop2 fun q d => step0 (n d) (o.s d q) (o.r 0 d q) q d
  loop 4 fun q => gemm (o.x 3 q) (o.p 3 0 q) (o.p 3 1 q)
  loop2 fun q d => step1 (n d) (o.r 1 d q) q d
  loop2 fun q d => step2 (n d) (o.r 2 d q) (o.a 0 d q) q d
  loop 2 fun t => loop2 fun q d => stepG (n d) t (o.a t.castSucc d q) (o.a t.succ d q) q d
  loop2 fun q d => stepL (o.a 2 d q) q d
  loop2 fun q d => endRS0 (o.s d q) q d
  loop 2 fun s => loop2 fun q d => endRS s q d
  loop 3 fun t => loop2 fun q d => endAG (o.a t d q) t q d

/-! ## The printed offsets -/

/-- The offsets as the program computes them. -/
def offs (c : Dev nD) : Offs where
  x := ![fun q => ⟨k0_off1 c (BitVec.ofNat 32 (256 * q.val)), k0_off1_inb c q, k0_off1_wordsi8 c q⟩,
    fun q => ⟨k0_off6 c (BitVec.ofNat 32 (256 * q.val)), k0_off6_inb c q, k0_off6_wordsi8 c q⟩,
    fun q => ⟨k0_off9 c 1#32 (BitVec.ofNat 32 (256 * q.val)), k0_off9_inb c 0 q, k0_off9_wordsi8 c 0 q⟩,
    fun q => ⟨k0_off9 c 2#32 (BitVec.ofNat 32 (256 * q.val)), k0_off9_inb c 1 q, k0_off9_wordsi8 c 1 q⟩]
  p := ![![fun q => ⟨k0_off2 c (BitVec.ofNat 32 (256 * q.val)), k0_off2_inb c q⟩,
      fun q => ⟨k0_off3 c (BitVec.ofNat 32 (256 * q.val)), k0_off3_inb c q⟩],
    ![fun q => ⟨k0_off7 c (BitVec.ofNat 32 (256 * q.val)), k0_off7_inb c q⟩,
      fun q => ⟨k0_off8 c (BitVec.ofNat 32 (256 * q.val)), k0_off8_inb c q⟩],
    ![fun q => ⟨k0_off10 c 1#32 (BitVec.ofNat 32 (256 * q.val)), k0_off10_inb c 0 q⟩,
      fun q => ⟨k0_off5 c 1#32 (BitVec.ofNat 32 (256 * q.val)), k0_off5_inb c 1 q⟩],
    ![fun q => ⟨k0_off10 c 2#32 (BitVec.ofNat 32 (256 * q.val)), k0_off10_inb c 1 q⟩,
      fun q => ⟨k0_off5 c 2#32 (BitVec.ofNat 32 (256 * q.val)), k0_off5_inb c 2 q⟩]]
  s := ![fun q => ⟨k0_off4 c (BitVec.ofNat 32 (256 * q.val)), k0_off4_inb c q⟩,
      fun q => ⟨k0_off5 c 0#32 (BitVec.ofNat 32 (256 * q.val)), k0_off5_inb c 0 q⟩]
  r s := ![fun q => ⟨k0_off11 c (BitVec.ofNat 32 s.val) (BitVec.ofNat 32 (256 * q.val)), k0_off11_inb c s q⟩,
      fun q => ⟨k0_off12 c (BitVec.ofNat 32 s.val) (BitVec.ofNat 32 (256 * q.val)), k0_off12_inb c s q⟩]
  a t := ![fun q => ⟨k0_off13 c (BitVec.ofNat 32 t.val) (BitVec.ofNat 32 (256 * q.val)), k0_off13_inb c t q⟩,
      fun q => ⟨k0_off14 c (BitVec.ofNat 32 t.val) (BitVec.ofNat 32 (256 * q.val)), k0_off14_inb c t q⟩]

/-- The neighbour of each direction, as the program computes it. -/
def nbr (c : Dev nD) : Fin 2 → Dev nD := ![⟨k0_dev1 c, k0_dev1_lt c⟩, ⟨k0_dev2 c, k0_dev2_lt c⟩]

end Cert.KernelIdeal.Plain
-- ==== Proof.Rules.lean ====
/- The rules of the parts the body is made of: what a memref holds, one judgement `Tri` (from `A` the program ends
   in `B`) with its composition and its loops, and the local copies, loads and stores of a tile. -/
module

public import proofs.«01_k».proof.Proof.Plain
public import Idealize.ShloMosaic.Lib.Pipeline.Launch
public import Idealize.ShloMosaic.Lib.Pipeline.Kit
public import Idealize.ShloMosaic.Lib.Transfers
public import Idealize.ShloMosaic.Lib.VecWindow
public import Idealize.ShloMosaic.Lib.Tactic

@[expose] public section

noncomputable section

namespace Cert.KernelIdeal.Ring

open Cert.KernelIdeal.Gen Cert.KernelIdeal.Plain
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS

variable {F : FTy → Type} [FloatOps F]

/-! ## The algebra: the launch's part, the schedule's (two duty names), the local copies' -/

abbrev UB : Type := URounds (GSem nD τ sig) (Fin 2)
abbrev UU : Type := UR sig nD τ × UB × Counters

local notation "𝕄" => MT nD τ sig Unit (Elt F) ℕ UU ℕ

/-- Assertions. -/
abbrev SP (F : FTy → Type) : Type := sProp (MT nD τ sig Unit (Elt F) ℕ UU ℕ)

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)

instance : (ER (F := F)).LandsIn (upEmb : UEmb _ (MT nD τ sig Unit (Elt F) ℕ UU ℕ)) := by unfold ER; infer_instance
instance : (EC (F := F)).LandsIn (upEmb : UEmb _ (MT nD τ sig Unit (Elt F) ℕ UU ℕ)) := by unfold EC; infer_instance

abbrev 𝒱₀ : Variants := Variants.none

/-! ## What a memref holds -/

section Holds
variable {sp : Space} {s : Shape} {e : EltTy}

/-- On device `c` the memref reads `X`, held at the share `q`. -/
def Own (M : Memref sig .tc sp s e) (c : Dev nD) (q : PosShare TreeShare) (X : s.Idx → Elt F e) : sProp 𝕄 :=
  iprop(∃ f : Buf (Elt F) (M.view.loc (c : Thread nD τ)), ⌜M.view.read (Elt F) f = X⌝ ∗ M.view.loc (c : Thread nD τ) ↦[M.view.set]{q} f)
/-- It is held whole, with some contents. -/
def Any (M : Memref sig .tc sp s e) (c : Dev nD) : sProp 𝕄 :=
  iprop(∃ f : Buf (Elt F) (M.view.loc (c : Thread nD τ)), M.view.loc (c : Thread nD τ) ↦[M.view.set]{fullShare} f)

omit [FloatOps F] in
instance Own_storable (M : Memref sig .tc sp s e) (c : Dev nD) (q : PosShare TreeShare) (X : s.Idx → Elt F e) :
    BI.Storable (upEmb : UEmb _ 𝕄) (Own M c q X) := by unfold Own; infer_instance
omit [FloatOps F] in
instance Any_storable (M : Memref sig .tc sp s e) (c : Dev nD) :
    BI.Storable (upEmb : UEmb _ 𝕄) (Any (F := F) M c) := by unfold Any; infer_instance

omit [FloatOps F] in
theorem Own.any {M : Memref sig .tc sp s e} {c : Dev nD} {X : s.Idx → Elt F e} : (Own M c fullShare X : sProp 𝕄) ⊢ Any M c := by
  unfold Own Any
  iintro ⟨%f, -, H⟩
  iexists f; iexact H

omit [FloatOps F] in
/-- Two halves of the share hold the same. -/
theorem Own.halves {M : Memref sig .tc sp s e} {c : Dev nD} {q : PosShare TreeShare} {X : s.Idx → Elt F e} :
    (Own M c q X : sProp 𝕄) ⊢ iprop(Own M c q.left X ∗ Own M c q.right X) := by
  unfold Own
  iintro ⟨%f, %hf, H⟩
  icases (pointsTo_share (q₁ := q.left) (q₂ := q.right) (by rw [PosShare.left_op_right]; exact Part.mem_some q)).1 $$ H with ⟨H₁, H₂⟩
  isplitl [H₁]
  · iexists f; isplitr
    · ipureintro; exact hf
    · iexact H₁
  · iexists f; isplitr
    · ipureintro; exact hf
    · iexact H₂

end Holds

/-! ## Levels and debts -/

def recvIx (x : ℕ) : Prop := (26 ≤ x ∧ x < 50) ∨ 74 ≤ x ∧ x < 98
instance (x : ℕ) : Decidable (recvIx x) := by unfold recvIx; infer_instance
/-- The step of a receiving semaphore: 0, 1, 2 of the reduce phase, 3, 4, 5 of the gather phase. -/
def stepIx (x : ℕ) : ℕ := if x < 50 then (x - 26) % 12 / 4 else 3 + (x - 74) % 12 / 4

def L (g : GSem nD τ sig) : Finset Unit := if g.1.2 = .tc then {()} else ∅
/-- Local semaphores at 0, the barrier at 1, an arrival of step `k` at `2 + k`. -/
def lv (g : GSem nD τ sig) (_ : Unit) : ℕ :=
  match g.2 with
  | .reg _ => 1
  | .dma x => if recvIx x.val then 2 + stepIx x.val else 0

theorem L_of_ne (g : GSem nD τ sig) (h : g.1.2 ≠ .tc) : L g = ∅ := if_neg h
theorem L_tc (c : Dev nD) (sm : SemLoc sig) : L ((c : Thread nD τ), sm) = {()} := if_pos rfl

/-- Everything owed lies on the processors' own cells above the level `b`. -/
def Above (b : ℕ) (O : CellTallies nD τ sig Unit) : Prop := ∀ (g : GSem nD τ sig) (u : Unit), 0 < O g u → g.1.2 = .tc ∧ b < lv g u

omit [FloatOps F] in
theorem Above.mayWait {b : ℕ} {O : CellTallies nD τ sig Unit} (h : Above b O) (c : Dev nD) (sm : SemLoc sig)
    (hs : lv ((c : Thread nD τ), sm) () ≤ b) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hs) (fun g u hg => (h g u hg).2)

theorem Above.mono {b b' : ℕ} {O : CellTallies nD τ sig Unit} (h : Above b O) (hb : b' ≤ b) : Above b' O :=
  fun g u hg => ⟨(h g u hg).1, lt_of_le_of_lt hb (h g u hg).2⟩

/-- Device `c` owes `O`; which waits it has made does not matter. -/
def owe (c : Dev nD) (O : CellTallies nD τ sig Unit) : sProp 𝕄 := iprop(∃ W, owes (c : Thread nD τ) O W)

omit [FloatOps F] in
theorem sep_fin_succ {m : ℕ} (Φ : Fin (m + 1) → sProp 𝕄) :
    bigSep Finset.univ Φ = iprop(Φ 0 ∗ bigSep Finset.univ fun k : Fin m => Φ k.succ) := by
  rw [Fin.univ_succ, Finset.cons_eq_insert, bigSep_insert (by simp), bigSep_map]
  rfl

/-! ## The judgement -/

/-- From `A`, device `c` runs `p` and ends in `B`. -/
def Tri (c : Dev nD) (A : sProp 𝕄) (p : P (F := F) PUnit.{1}) (B : sProp 𝕄) : Prop :=
  A ⊢ wp Idealize.ShloMosaic.frame (wpE (defs₀ (F := F)) 𝒱₀ (c : Thread nD τ) none) Set.univ p fun _ => B

section Judge
variable {c : Dev nD} {A A' B B' C R : SP F} {p : P (F := F) PUnit.{1}} {k : PUnit.{1} → P (F := F) PUnit.{1}}

theorem Tri.bind (h : Tri c A p B) (hk : Tri c B (k ⟨⟩) C) : Tri c A (p.bind k) C := by
  unfold Tri at *
  refine h.trans ((wp_mono _ _ _ (Q' := fun a => wp Idealize.ShloMosaic.frame (wpE (defs₀ (F := F)) 𝒱₀ (c : Thread nD τ) none) Set.univ (k a) fun _ => C)
    fun _ => hk).trans (Entails.of_eq (wp_bind _ _ _ p k _).symm))

theorem Tri.frame (h : Tri c A p B) : Tri c iprop(A ∗ R) p iprop(B ∗ R) := by
  unfold Tri at *
  exact (sep_mono_left h).trans (wp_frame_r _ _ _)

theorem Tri.conseq (h : Tri c A p B) (h₁ : A' ⊢ A) (h₂ : B ⊢ B') : Tri c A' p B' := by
  unfold Tri at *
  exact (h₁.trans h).trans (wp_mono _ _ _ fun _ => h₂)

/-- The use of a judgement inside a longer proof. -/
theorem Tri.use (h : Tri c A p B) {Q : PUnit.{1} → sProp 𝕄} :
    iprop(A ∗ (B -∗ Q ⟨⟩)) ⊢ wp Idealize.ShloMosaic.frame (wpE (defs₀ (F := F)) 𝒱₀ (c : Thread nD τ) none) Set.univ p Q := by
  unfold Tri at h
  refine (sep_mono_left h).trans ((wp_frame_r _ _ _).trans (wp_mono _ _ _ fun _ => ?_))
  iintro ⟨H, Hk⟩
  iapply Hk; iexact H

theorem Tri.useBind (h : Tri c A p B) {Q : PUnit.{1} → sProp 𝕄} :
    iprop(A ∗ (B -∗ wp Idealize.ShloMosaic.frame (wpE (defs₀ (F := F)) 𝒱₀ (c : Thread nD τ) none) Set.univ (k ⟨⟩) Q))
      ⊢ wp Idealize.ShloMosaic.frame (wpE (defs₀ (F := F)) 𝒱₀ (c : Thread nD τ) none) Set.univ (p.bind k) Q :=
  (h.use (Q := fun a => wp Idealize.ShloMosaic.frame (wpE (defs₀ (F := F)) 𝒱₀ (c : Thread nD τ) none) Set.univ (k a) Q)).trans
    (Entails.of_eq (wp_bind _ _ _ p k _).symm)

/-- A loop with a state that changes from round to round and, per round, what it takes and what it leaves. -/
theorem Tri.loop {n : ℕ} : ∀ {f : Fin n → P (F := F) PUnit} (G : ℕ → sProp 𝕄) (X Y : Fin n → sProp 𝕄),
    (∀ i : Fin n, Tri c iprop(G i.val ∗ X i) (f i) iprop(G (i.val + 1) ∗ Y i)) →
      Tri c iprop(G 0 ∗ bigSep Finset.univ X) (Plain.loop n f) iprop(G n ∗ bigSep Finset.univ Y) := by
  induction n with
  | zero =>
    intro f G X Y _
    unfold Tri Plain.loop
    rw [Finset.univ_eq_empty, bigSep_empty, bigSep_empty]
    exact fupd_intro
  | succ n ih =>
    intro f G X Y h
    have h0 : Tri c iprop(G 0 ∗ X 0) (f 0) iprop(G 1 ∗ Y 0) := h 0
    have hs := ih (f := fun i => f i.succ) (fun i => G (i + 1)) (fun i => X i.succ) (fun i => Y i.succ) fun i => h i.succ
    unfold Plain.loop
    rw [sep_fin_succ, sep_fin_succ]
    refine Tri.bind (B := iprop((G 1 ∗ bigSep Finset.univ fun i : Fin n => X i.succ) ∗ Y 0)) ((h0.frame (R := bigSep Finset.univ fun i : Fin n => X i.succ)).conseq ?_ ?_)
      ((hs.frame (R := Y 0)).conseq ?_ ?_)
    · iintro ⟨H, H0, H1⟩
      isplitl [H H0]
      · isplitl [H]; · iexact H
        iexact H0
      · iexact H1
    · iintro ⟨⟨H, H0⟩, H1⟩
      isplitl [H H1]
      · isplitl [H]; · iexact H
        iexact H1
      · iexact H0
    · exact .rfl
    · iintro ⟨⟨H, H1⟩, H0⟩
      isplitl [H]; · iexact H
      isplitl [H0]; · iexact H0
      iexact H1

/-- The loop over row tiles and directions. -/
theorem Tri.loop2 {f : Fin 4 → Fin 2 → P (F := F) PUnit} (G : ℕ → sProp 𝕄) (X Y : Fin 4 → Fin 2 → sProp 𝕄)
    (h : ∀ q d, Tri c iprop(G (2 * q.val + d.val) ∗ X q d) (f q d) iprop(G (2 * q.val + d.val + 1) ∗ Y q d)) :
    Tri c iprop(G 0 ∗ bigSep Finset.univ fun q => bigSep Finset.univ fun d => X q d) (Plain.loop2 f)
      iprop(G 8 ∗ bigSep Finset.univ fun q => bigSep Finset.univ fun d => Y q d) :=
  Tri.loop (n := 4) (fun i => G (2 * i)) _ _ fun q => Tri.loop (n := 2) (fun i => G (2 * q.val + i)) _ _ fun d => h q d

end Judge

end Cert.KernelIdeal.Ring
-- ==== Proof.Local.lean ====
/- What a device does alone: copies between its memory spaces, a tile of the partial product, a tile added to the
   running sum, the result from the last sum. -/
module

public import proofs.«01_k».proof.Proof.Rules

@[expose] public section

noncomputable section

namespace Cert.KernelIdeal.Ring

open Cert.KernelIdeal.Gen Cert.KernelIdeal.Plain
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Memrefs by what they read -/

section Reads
variable {sp : Space} {s : Shape} {e : EltTy}

theorem pts_same (M : Memref sig .tc sp s e) (c : Dev nD) (q : PosShare TreeShare) {f g : Buf (Elt F) (M.view.loc (c : Thread nD τ))}
    (h : M.view.read (Elt F) f = M.view.read (Elt F) g) :
    (M.view.loc (c : Thread nD τ) ↦[M.view.set]{q} f : sProp 𝕄) = M.view.loc (c : Thread nD τ) ↦[M.view.set]{q} g := by
  rw [pointsTo_rep (c : Thread nD τ) M f q, pointsTo_rep (c : Thread nD τ) M g q, h]

/-- A rectangle of what a memref holds, and the way back. -/
theorem Own.slice (M : Memref sig .tc sp s e) (c : Dev nD) (q : PosShare TreeShare) (X : s.Idx → Elt F e) (r : Rect s) (hr : ∀ a, r.stride a = 1) :
    (Own M c q X : sProp 𝕄) ⊢ iprop(Own (M.slice r hr) c q (fun y => X (r.emb y))
      ∗ (Own (M.slice r hr) c q (fun y => X (r.emb y)) -∗ Own M c q X)) := by
  unfold Own
  iintro ⟨%f, %hf, H⟩
  icases (pointsTo_split_subset (View.set_slice_subset (v := M.view) r)).1 $$ H with ⟨H₁, H₂⟩
  have hf' : (M.slice r hr).view.read (Elt F) f = fun y => X (r.emb y) := by rw [← hf]; rfl
  isplitl [H₁]
  · iexists f; isplitr
    · ipureintro; exact hf'
    · iexact H₁
  · iintro ⟨%g, %hg, H₁⟩
    ihave H₁' := (Entails.of_eq (pts_same (M.slice r hr) c q (f := g) (g := f) (hg.trans hf'.symm))) $$ H₁
    iexists f; isplitr
    · ipureintro; exact hf
    · iapply (pointsTo_split_subset (View.set_slice_subset (v := M.view) r)).2
      isplitl [H₁']; · iexact H₁'
      iexact H₂

end Reads

theorem lv_loc (c : Dev nD) (i : Fin 2) : lv ((c : Thread nD τ), .dma (locS i)) () ≤ 0 := by
  have := i.isLt
  have h : ¬ recvIx (98 + i.val) := by unfold recvIx; omega
  show (if recvIx (98 + i.val) then 2 + stepIx (98 + i.val) else 0) ≤ 0
  rw [if_neg h]

/-- The only index of a scale. -/
def z1 : S1.Idx := fun a => ⟨0, by revert a; decide⟩
theorem S1_one (x : S1.Idx) : x = z1 := by
  funext a
  have h1 : S1.size a = 1 := by revert a; decide
  exact Fin.ext (by have h := (x a).isLt; have h2 : (x a).val < S1.size a := h; show (x a).val = 0; omega)

/-! ## One operation -/

section Ops
variable {c : Dev nD} {s : Shape} {e : EltTy}

/-- A local copy's departure, -/
theorem cp_start {sp sp' : Space} {α : Type} (i : Fin 2) (src : Memref sig .tc sp s e) (dst : Memref sig .tc sp' s e)
    {h₁ : src.view.WordExact} {h₂ : dst.view.WordExact} {ht : DmaTarget.Typed (nD := nD) (τ := τ) (p := .tc) sp (.dma (locS i)) (.here dst)}
    (h0 : 0 < dst.view.dmaCredit) (q : PosShare TreeShare) (X : s.Idx → Elt F e) {k : PUnit → P (F := F) α} {Q : α → SP F} :
    iprop((Own src c q X ∗ Any dst c ∗ semVal ((c : Thread nD τ), .dma (locS i)) 0)
        ∗ (Transfers.Flight EC (c : Thread nD τ) (.dma (locS i)) () dst.view.dmaCredit iprop(Own dst c fullShare X ∗ Own src c q X)
          -∗ wp Idealize.ShloMosaic.frame (wpE (defs₀ (F := F)) 𝒱₀ (c : Thread nD τ) none) Set.univ (k ⟨⟩) Q))
      ⊢ wp Idealize.ShloMosaic.frame (wpE (defs₀ (F := F)) 𝒱₀ (c : Thread nD τ) none) Set.univ
          (.op (.enqueueDma src (.here dst) (.dma (locS i)) h₁ h₂ ht) k) Q := by
  iintro ⟨⟨Hs, Hd, Hv⟩, Hk⟩
  unfold Own Any
  icases Hs with ⟨%f, %hf, Hs⟩
  icases Hd with ⟨%g, Hd⟩
  iapply (Transfers.wp_dmaLocal EC 𝒱₀ (c : Thread nD τ) none () dst.view.dmaCredit rfl h0 (Finset.Subset.refl _)) $$ [Hs Hd Hv]
  · isplitl [Hs]; · iexact Hs
    isplitl [Hd]; · iexact Hd
    iexact Hv
  iintro HF
  iapply Hk
  iapply (Transfers.Flight_mono EC ?_) $$ HF
  iintro ⟨Hd, Hs⟩
  isplitl [Hd]
  · iexists (dst.view.write (Elt F) g (src.view.read (Elt F) f) Finset.univ); isplitr
    · ipureintro; exact (View.read_write_univ _ _).trans hf
    · iexact Hd
  · iexists f; isplitr
    · ipureintro; exact hf
    · iexact Hs

/-- and the wait for it. -/
theorem cp_wait {sp sp' : Space} {α : Type} (i : Fin 2) (src : Memref sig .tc sp s e) (dst : Memref sig .tc sp' s e)
    {h₁ : src.view.WordExact} {h₂ : dst.view.WordExact} {D : SP F} {O : CellTallies nD τ sig Unit} (hO : Above 0 O)
    {k : PUnit → P (F := F) α} {Q : α → SP F} :
    iprop((Transfers.Flight EC (c : Thread nD τ) (.dma (locS i)) () dst.view.dmaCredit D ∗ owe c O ∗ levAts L lv)
        ∗ ((D ∗ semVal ((c : Thread nD τ), .dma (locS i)) 0 ∗ owe c O)
          -∗ wp Idealize.ShloMosaic.frame (wpE (defs₀ (F := F)) 𝒱₀ (c : Thread nD τ) none) Set.univ (k ⟨⟩) Q))
      ⊢ wp Idealize.ShloMosaic.frame (wpE (defs₀ (F := F)) 𝒱₀ (c : Thread nD τ) none) Set.univ
          (.op (.waitDma2 (locS i) src dst h₁ h₂) k) Q := by
  unfold owe
  iintro ⟨⟨HF, ⟨%W, HO⟩, #Hl⟩, Hk⟩
  iapply (Transfers.wp_waitLocalO EC 𝒱₀ (c : Thread nD τ) none () rfl (O := O) (W := W)) $$ [HF HO]
  · isplitl [HF]; · iexact HF
    isplitl [HO]; · iexact HO
    iapply (hO.mayWait c (.dma (locS i)) (lv_loc c i)); iexact Hl
  iintro ⟨HD, Hv, HO⟩
  iapply Hk
  isplitl [HD]; · iexact HD
  isplitl [Hv]; · iexact Hv
  iexists _; iexact HO

/-- A tile buffer is read whole, -/
theorem ld_tile {α : Type} (m : Memref sig .tc .vmem S256x4096 .f32) {hl : m.view.LoadsAt wAll.toLoadRect} (q : PosShare TreeShare)
    (X : S256x4096.Idx → Elt F .f32) {k : Vec F S256x4096 .f32 → P (F := F) α} {Q : α → SP F} :
    iprop(Own m c q X
        ∗ (Own m c q X -∗ wp Idealize.ShloMosaic.frame (wpE (defs₀ (F := F)) 𝒱₀ (c : Thread nD τ) none) Set.univ (k X) Q))
      ⊢ wp Idealize.ShloMosaic.frame (wpE (defs₀ (F := F)) 𝒱₀ (c : Thread nD τ) none) Set.univ
          (.op (.load m wAll.toLoadRect hl) k) Q := by
  unfold Own
  iintro ⟨⟨%f, %hf, H⟩, Hk⟩
  iapply (wp_load 𝒱₀ (c : Thread nD τ) none Set.univ (View.setOn_subset_set (v := m.view) _)) $$ H
  iintro H
  rw [show m.view.readAt (Elt F) wAll.toLoadRect f = X from (View.readAt_full m.view f _).trans hf]
  iapply Hk
  iexists f; isplitr
  · ipureintro; exact hf
  · iexact H

/-- whatever it holds too, -/
theorem ld_any {α : Type} (m : Memref sig .tc .vmem S256x4096 .f32) {hl : m.view.LoadsAt wAll.toLoadRect}
    {k : Vec F S256x4096 .f32 → P (F := F) α} {Q : α → SP F} {k' : P (F := F) α} (hk : ∀ x, k x = k') :
    iprop(Any m c
        ∗ (Any m c -∗ wp Idealize.ShloMosaic.frame (wpE (defs₀ (F := F)) 𝒱₀ (c : Thread nD τ) none) Set.univ k' Q))
      ⊢ wp Idealize.ShloMosaic.frame (wpE (defs₀ (F := F)) 𝒱₀ (c : Thread nD τ) none) Set.univ
          (.op (.load m wAll.toLoadRect hl) k) Q := by
  unfold Any
  iintro ⟨⟨%f, H⟩, Hk⟩
  iapply (wp_load 𝒱₀ (c : Thread nD τ) none Set.univ (View.setOn_subset_set (v := m.view) _)) $$ H
  iintro H
  rw [hk]
  iapply Hk
  iexists f; iexact H

/-- and written whole. -/
theorem st_tile {α : Type} (m : Memref sig .tc .vmem S256x4096 .f32) (v : Vec F S256x4096 .f32)
    {hx : (m.access wAll).Stores Finset.univ} {hm} {k : PUnit → P (F := F) α} {Q : α → SP F} :
    iprop(Any m c
        ∗ (Own m c fullShare v -∗ wp Idealize.ShloMosaic.frame (wpE (defs₀ (F := F)) 𝒱₀ (c : Thread nD τ) none) Set.univ (k ⟨⟩) Q))
      ⊢ wp Idealize.ShloMosaic.frame (wpE (defs₀ (F := F)) 𝒱₀ (c : Thread nD τ) none) Set.univ
          (.op (.store m wAll v Finset.univ hx hm) k) Q := by
  unfold Own Any
  iintro ⟨⟨%f, H⟩, Hk⟩
  iapply (wp_store 𝒱₀ (c : Thread nD τ) none Set.univ (m := m) (r := wAll)
    (by rw [View.setOn_univ]; exact View.set_slice_subset (v := m.view) wAll)) $$ H
  iintro H
  iapply Hk
  iexists _; isplitr
  rotate_left
  · iexact H
  · ipureintro
    funext y
    have hy : wAll.emb y = y := Rect.emb_unit_full (s := S256x4096) (off := ![0, 0]) inb_S256x4096_S256x4096_0_0 y
    have := congrFun (View.read_write_univ (v := m.access wAll) (Val := Elt F) f v) y
    exact (congrArg _ hy.symm).trans this

/-- Half of the matrix is read. -/
theorem ld_half {α : Type} (d : Fin 2) {hl : wV.view.LoadsAt (half d).toLoadRect} (q : PosShare TreeShare)
    (X : S1024x8192.Idx → Elt F .i8) {k : Vec F S1024x4096 .i8 → P (F := F) α} {Q : α → SP F} :
    iprop(Own wV c q X
        ∗ (Own wV c q X -∗ wp Idealize.ShloMosaic.frame (wpE (defs₀ (F := F)) 𝒱₀ (c : Thread nD τ) none) Set.univ
            (k fun y => X ((half d).emb y)) Q))
      ⊢ wp Idealize.ShloMosaic.frame (wpE (defs₀ (F := F)) 𝒱₀ (c : Thread nD τ) none) Set.univ
          (.op (.load wV (half d).toLoadRect hl) k) Q := by
  unfold Own
  iintro ⟨⟨%f, %hf, H⟩, Hk⟩
  iapply (wp_load 𝒱₀ (c : Thread nD τ) none Set.univ (View.setOn_subset_set (v := wV.view) _)) $$ H
  iintro H
  rw [show wV.view.readAt (Elt F) (half d).toLoadRect f = fun y => X ((half d).emb y) by rw [← hf]; rfl]
  iapply Hk
  iexists f; isplitr
  · ipureintro; exact hf
  · iexact H

/-- The rows of `x` are read. -/
theorem ld_rows {α : Type} {hl : xV.view.LoadsAt (Rect.unit (s := S256x1024) ![0, 0] S256x1024.size inb_S256x1024_S256x1024_0_0).toLoadRect}
    (q : PosShare TreeShare) (X : S256x1024.Idx → Elt F .i8) {k : Vec F S256x1024 .i8 → P (F := F) α} {Q : α → SP F} :
    iprop(Own xV c q X
        ∗ (Own xV c q X -∗ wp Idealize.ShloMosaic.frame (wpE (defs₀ (F := F)) 𝒱₀ (c : Thread nD τ) none) Set.univ (k X) Q))
      ⊢ wp Idealize.ShloMosaic.frame (wpE (defs₀ (F := F)) 𝒱₀ (c : Thread nD τ) none) Set.univ
          (.op (.load xV (Rect.unit (s := S256x1024) ![0, 0] S256x1024.size inb_S256x1024_S256x1024_0_0).toLoadRect hl) k) Q := by
  unfold Own
  iintro ⟨⟨%f, %hf, H⟩, Hk⟩
  iapply (wp_load 𝒱₀ (c : Thread nD τ) none Set.univ (View.setOn_subset_set (v := xV.view) _)) $$ H
  iintro H
  rw [show xV.view.readAt (Elt F) (Rect.unit (s := S256x1024) ![0, 0] S256x1024.size inb_S256x1024_S256x1024_0_0).toLoadRect f = X
    from (View.readAt_full xV.view f _).trans hf]
  iapply Hk
  iexists f; isplitr
  · ipureintro; exact hf
  · iexact H

/-- A scale is read. -/
theorem ld_scale {α : Type} (m : Memref sig .tc .smem S1 .f32) {h1} {hp} (q : PosShare TreeShare) (X : S1.Idx → Elt F .f32)
    {k : Elt F .f32 → P (F := F) α} {Q : α → SP F} :
    iprop(Own m c q X
        ∗ (Own m c q X -∗ wp Idealize.ShloMosaic.frame (wpE (defs₀ (F := F)) 𝒱₀ (c : Thread nD τ) none) Set.univ (k (X z1)) Q))
      ⊢ wp Idealize.ShloMosaic.frame (wpE (defs₀ (F := F)) 𝒱₀ (c : Thread nD τ) none) Set.univ
          ((smemLoad m (Rect.unit (s := S1) ![0] S1.size inb_S1_S1_0) h1 hp).bind k) Q := by
  unfold Own
  iintro ⟨⟨%f, %hf, H⟩, Hk⟩
  unfold smemLoad smemLoadElt
  simp only [Prog.bind_op, Prog.bind_ret]
  iapply (wp_load_rect 𝒱₀ (c : Thread nD τ) none Set.univ (m := m) (r := Rect.unit (s := S1) ![0] S1.size inb_S1_S1_0)
    (View.set_slice_subset (v := m.view) _)) $$ H
  iintro H
  have hz : (m.access (Rect.unit (s := S1) ![0] S1.size inb_S1_S1_0)).read (Elt F) f (Shape.Idx.first (h1.symm ▸ Nat.one_pos)) = X z1 := by
    rw [← hf]; exact congrArg (m.view.read (Elt F) f) (S1_one _)
  simp only [Prog.bind_ret]
  rw [hz]
  iapply Hk
  iexists f; isplitr
  · ipureintro; exact hf
  · iexact H

end Ops

end Cert.KernelIdeal.Ring
-- ==== Proof.Parts.lean ====
/- The parts of the body that touch no other device: one judgement each. -/
module

public import proofs.«01_k».proof.Proof.Local

@[expose] public section

noncomputable section

namespace Cert.KernelIdeal.Ring

open Cert.KernelIdeal.Gen Cert.KernelIdeal.Plain
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What every part works with -/

/-- The levels, the debt, the two local semaphores and the four tile buffers. -/
def Gear (c : Dev nD) (O : CellTallies nD τ sig Unit) : sProp 𝕄 :=
  iprop(levAts L lv ∗ owe c O ∗ semVal ((c : Thread nD τ), .dma (locS 0)) 0 ∗ semVal ((c : Thread nD τ), .dma (locS 1)) 0
    ∗ Any xV c ∗ Any gV c ∗ Any aV c ∗ Any bV c)

theorem credit_pos {sp : Space} {s : Shape} {e : EltTy} (M : Memref sig .tc sp s e) (h : 0 < s.numel) : 0 < M.view.dmaCredit :=
  View.dmaCredit_pos _ h

section Parts
variable {c : Dev nD} {s : Shape} {e : EltTy} {O : CellTallies nD τ sig Unit}

theorem cpHV_tri (i : Fin 2) (src : Memref sig .tc .hbm s e) (dst : Memref sig .tc .vmem s e) (h₁ : src.view.WordExact) (h₂ : dst.view.WordExact)
    (hn : 0 < s.numel) (hO : Above 0 O) (q : PosShare TreeShare) (X : s.Idx → Elt F e) :
    Tri c iprop(levAts L lv ∗ Own src c q X ∗ Any dst c ∗ semVal ((c : Thread nD τ), .dma (locS i)) 0 ∗ owe c O)
      (cpHV i src dst h₁ h₂)
      iprop(Own src c q X ∗ Own dst c fullShare X ∗ semVal ((c : Thread nD τ), .dma (locS i)) 0 ∗ owe c O) := by
  unfold Tri
  simp only [cpHV, Prog.lift, Prog.bind_op, Prog.bind_ret, Prog.pure_eq_ret]
  iintro ⟨#Hl, Hs, Hd, Hv, HO⟩
  iapply (cp_start i src dst (credit_pos dst hn) q X)
  isplitl [Hs Hd Hv]
  · isplitl [Hs]; · iexact Hs
    isplitl [Hd]; · iexact Hd
    iexact Hv
  iintro HF
  iapply (cp_wait i src dst hO)
  isplitl [HF HO]
  · isplitl [HF]; · iexact HF
    isplitl [HO]; · iexact HO
    iexact Hl
  iintro ⟨⟨Hd, Hs⟩, Hv, HO⟩
  simp only [wp_ret]
  imodintro
  isplitl [Hs]; · iexact Hs
  isplitl [Hd]; · iexact Hd
  isplitl [Hv]; · iexact Hv
  iexact HO

theorem cpVH_tri (i : Fin 2) (src : Memref sig .tc .vmem s e) (dst : Memref sig .tc .hbm s e) (h₁ : src.view.WordExact) (h₂ : dst.view.WordExact)
    (hn : 0 < s.numel) (hO : Above 0 O) (q : PosShare TreeShare) (X : s.Idx → Elt F e) :
    Tri c iprop(levAts L lv ∗ Own src c q X ∗ Any dst c ∗ semVal ((c : Thread nD τ), .dma (locS i)) 0 ∗ owe c O)
      (cpVH i src dst h₁ h₂)
      iprop(Own src c q X ∗ Own dst c fullShare X ∗ semVal ((c : Thread nD τ), .dma (locS i)) 0 ∗ owe c O) := by
  unfold Tri
  simp only [cpVH, Prog.lift, Prog.bind_op, Prog.bind_ret, Prog.pure_eq_ret]
  iintro ⟨#Hl, Hs, Hd, Hv, HO⟩
  iapply (cp_start i src dst (credit_pos dst hn) q X)
  isplitl [Hs Hd Hv]
  · isplitl [Hs]; · iexact Hs
    isplitl [Hd]; · iexact Hd
    iexact Hv
  iintro HF
  iapply (cp_wait i src dst hO)
  isplitl [HF HO]
  · isplitl [HF]; · iexact HF
    isplitl [HO]; · iexact HO
    iexact Hl
  iintro ⟨⟨Hd, Hs⟩, Hv, HO⟩
  simp only [wp_ret]
  imodintro
  isplitl [Hs]; · iexact Hs
  isplitl [Hd]; · iexact Hd
  isplitl [Hv]; · iexact Hv
  iexact HO

theorem tile_pos : 0 < S256x4096.numel := by decide +kernel
theorem rows_pos : 0 < S256x1024.numel := by decide +kernel

/-- Half `d` of a matrix of 8192 columns. -/
def wHalf (W : S1024x8192.Idx → Elt F .i8) (d : Fin 2) : Vec F S1024x4096 .i8 := fun y => W ((half d).emb y)
/-- A tile of rows. -/
def xRows (X : S4096x1024.Idx → Elt F .i8) (o : XOff) : Vec F S256x1024 .i8 :=
  fun y => X ((Rect.unit (s := S4096x1024) o.1 S256x1024.size o.2.1).emb y)

theorem Own.rows (c : Dev nD) (q : PosShare TreeShare) (X : S4096x1024.Idx → Elt F .i8) (o : XOff) :
    (Own xM c q X : sProp 𝕄) ⊢ iprop(Own (xT o) c q (xRows X o) ∗ (Own (xT o) c q (xRows X o) -∗ Own xM c q X)) :=
  Own.slice xM c q X (Rect.unit (s := S4096x1024) o.1 S256x1024.size o.2.1) (fun _ => rfl)

/-- One half of a tile of the partial product. -/
theorem gemmHalf_tri (hO : Above 0 O) (v : Vec F S256x1024 .i8) (d : Fin 2) (o : HOff) (W : S1024x8192.Idx → Elt F .i8) :
    Tri c iprop(Gear c O ∗ Own wV c fullShare W ∗ Any (hT parM o) c) (gemmHalf v d o)
      iprop(Gear c O ∗ Own wV c fullShare W ∗ Own (hT parM o) c fullShare (dotV v (wHalf W d))) := by
  unfold Tri
  simp only [gemmHalf, ldV, stV, Prog.lift, Prog.bind_op, Prog.bind_ret, Prog.pure_eq_ret]
  unfold Gear
  iintro ⟨⟨#Hl, HO, Hv0, Hv1, Hx, Hg, Ha, Hb⟩, HW, Hd⟩
  iapply (ld_half d fullShare W)
  isplitl [HW]; · iexact HW
  iintro HW
  iapply (ld_any gV (fun _ => rfl))
  isplitl [Hg]; · iexact Hg
  iintro Hg
  iapply (st_tile gV (dotV v (wHalf W d)))
  isplitl [Hg]; · iexact Hg
  iintro Hg
  iapply (cpVH_tri 1 gV (hT parM o) gV_word (hT_word _ o) tile_pos hO fullShare (dotV v (wHalf W d))).use
  isplitl [Hg Hd Hv1 HO]
  · isplitr; · iexact Hl
    isplitl [Hg]; · iexact Hg
    isplitl [Hd]; · iexact Hd
    isplitl [Hv1]; · iexact Hv1
    iexact HO
  iintro ⟨Hg, Hd, Hv1, HO⟩
  ihave Hg := Own.any $$ Hg
  isplitr [HW Hd]
  · isplitr; · iexact Hl
    isplitl [HO]; · iexact HO
    isplitl [Hv0]; · iexact Hv0
    isplitl [Hv1]; · iexact Hv1
    isplitl [Hx]; · iexact Hx
    isplitl [Hg]; · iexact Hg
    isplitl [Ha]; · iexact Ha
    iexact Hb
  isplitl [HW]; · iexact HW
  iexact Hd

/-- A tile of the partial product. -/
theorem gemm_tri (hO : Above 0 O) (ox : XOff) (o₀ o₁ : HOff) (q : PosShare TreeShare) (X : S4096x1024.Idx → Elt F .i8)
    (W : S1024x8192.Idx → Elt F .i8) :
    Tri c iprop((Gear c O ∗ Own xM c q X ∗ Own wV c fullShare W) ∗ Any (hT parM o₀) c ∗ Any (hT parM o₁) c) (gemm ox o₀ o₁)
      iprop((Gear c O ∗ Own xM c q X ∗ Own wV c fullShare W) ∗ Own (hT parM o₀) c fullShare (dotV (xRows X ox) (wHalf W 0))
        ∗ Own (hT parM o₁) c fullShare (dotV (xRows X ox) (wHalf W 1))) := by
  unfold Tri
  simp only [gemm, Prog.lift, Prog.bind_op, Prog.bind_ret, Prog.pure_eq_ret]
  iintro ⟨⟨HG, HX, HW⟩, Hp0, Hp1⟩
  unfold Gear
  icases HG with ⟨#Hl, HO, Hv0, Hv1, Hx, Hg, Ha, Hb⟩
  icases (Own.rows c q X ox) $$ HX with ⟨Hs, Hback⟩
  iapply (cpHV_tri 0 (xT ox) xV (xT_word ox) xV_word rows_pos hO q (xRows X ox)).useBind
  isplitl [Hs Hx Hv0 HO]
  · isplitr; · iexact Hl
    isplitl [Hs]; · iexact Hs
    isplitl [Hx]; · iexact Hx
    isplitl [Hv0]; · iexact Hv0
    iexact HO
  iintro ⟨Hs, Hx, Hv0, HO⟩
  ihave HX := Hback $$ Hs
  iapply (ld_rows fullShare (xRows X ox))
  isplitl [Hx]; · iexact Hx
  iintro Hx
  ihave Hx := Own.any $$ Hx
  iapply (gemmHalf_tri hO (xRows X ox) 0 o₀ W).useBind
  isplitr [Hp1 HX]
  · isplitr [HW Hp0]
    · unfold Gear
      isplitr; · iexact Hl
      isplitl [HO]; · iexact HO
      isplitl [Hv0]; · iexact Hv0
      isplitl [Hv1]; · iexact Hv1
      isplitl [Hx]; · iexact Hx
      isplitl [Hg]; · iexact Hg
      isplitl [Ha]; · iexact Ha
      iexact Hb
    isplitl [HW]; · iexact HW
    iexact Hp0
  iintro ⟨HG, HW, Hp0⟩
  iapply (gemmHalf_tri hO (xRows X ox) 1 o₁ W).use
  isplitr [Hp0 HX]
  · isplitl [HG]; · iexact HG
    isplitl [HW]; · iexact HW
    iexact Hp1
  iintro ⟨HG, HW, Hp1⟩
  isplitr [Hp0 Hp1]
  · isplitl [HG]; · unfold Gear; iexact HG
    isplitl [HX]; · iexact HX
    iexact HW
  isplitl [Hp0]; · iexact Hp0
  iexact Hp1

/-- The running sum and the tile are read. -/
theorem readAB_tri (hO : Above 0 O) (k : Fin 3) (d : Fin 2) (t : Fin 4) (o : HOff) (A B : S256x4096.Idx → Elt F .f32) :
    Tri c iprop(levAts L lv ∗ owe c O ∗ (semVal ((c : Thread nD τ), .dma (locS 0)) 0 ∗ semVal ((c : Thread nD τ), .dma (locS 1)) 0)
        ∗ (Any aV c ∗ Any bV c) ∗ Own (cT k t d) c fullShare A ∗ Own (hT parM o) c fullShare B)
      (readAB k d t o)
      iprop(owe c O ∗ (semVal ((c : Thread nD τ), .dma (locS 0)) 0 ∗ semVal ((c : Thread nD τ), .dma (locS 1)) 0)
        ∗ (Own aV c fullShare A ∗ Own bV c fullShare B) ∗ Own (cT k t d) c fullShare A ∗ Own (hT parM o) c fullShare B) := by
  unfold Tri
  simp only [readAB, Prog.lift, Prog.bind_op, Prog.bind_ret, Prog.pure_eq_ret]
  iintro ⟨#Hl, HO, ⟨Hv0, Hv1⟩, ⟨Ha, Hb⟩, HA, HB⟩
  iapply (cp_start 0 (cT k t d) aV (credit_pos aV tile_pos) fullShare A)
  isplitl [HA Ha Hv0]
  · isplitl [HA]; · iexact HA
    isplitl [Ha]; · iexact Ha
    iexact Hv0
  iintro HF0
  iapply (cp_start 1 (hT parM o) bV (credit_pos bV tile_pos) fullShare B)
  isplitl [HB Hb Hv1]
  · isplitl [HB]; · iexact HB
    isplitl [Hb]; · iexact Hb
    iexact Hv1
  iintro HF1
  iapply (cp_wait 0 (cT k t d) aV hO)
  isplitl [HF0 HO]
  · isplitl [HF0]; · iexact HF0
    isplitl [HO]; · iexact HO
    iexact Hl
  iintro ⟨⟨Ha, HA⟩, Hv0, HO⟩
  iapply (cp_wait 1 (hT parM o) bV hO)
  isplitl [HF1 HO]
  · isplitl [HF1]; · iexact HF1
    isplitl [HO]; · iexact HO
    iexact Hl
  iintro ⟨⟨Hb, HB⟩, Hv1, HO⟩
  simp only [wp_ret]
  imodintro
  isplitl [HO]; · iexact HO
  isplitl [Hv0 Hv1]
  · isplitl [Hv0]; · iexact Hv0
    iexact Hv1
  isplitl [Ha Hb]
  · isplitl [Ha]; · iexact Ha
    iexact Hb
  isplitl [HA]; · iexact HA
  iexact HB

/-- The tile is added to the running sum. -/
theorem rsAdd_tri (hO : Above 0 O) (k : Fin 3) (d : Fin 2) (t : Fin 4) (o : HOff) (A B : S256x4096.Idx → Elt F .f32) :
    Tri c iprop(Gear c O ∗ Own (cT k t d) c fullShare A ∗ Own (hT parM o) c fullShare B) (rsAdd k d t o)
      iprop(Gear c O ∗ Own (cT k t d) c fullShare (addV A B)) := by
  unfold Tri
  simp only [rsAdd, ldV, stV, Prog.lift, Prog.bind_op, Prog.bind_ret, Prog.pure_eq_ret]
  unfold Gear
  iintro ⟨⟨#Hl, HO, Hv0, Hv1, Hx, Hg, Ha, Hb⟩, HA, HB⟩
  iapply (readAB_tri hO k d t o A B).useBind
  isplitr [Hx Hg]
  · isplitr; · iexact Hl
    isplitl [HO]; · iexact HO
    isplitl [Hv0 Hv1]
    · isplitl [Hv0]; · iexact Hv0
      iexact Hv1
    isplitl [Ha Hb]
    · isplitl [Ha]; · iexact Ha
      iexact Hb
    isplitl [HA]; · iexact HA
    iexact HB
  iintro ⟨HO, ⟨Hv0, Hv1⟩, ⟨Ha, Hb⟩, HA, HB⟩
  iapply (ld_tile aV fullShare A)
  isplitl [Ha]; · iexact Ha
  iintro Ha
  iapply (ld_tile bV fullShare B)
  isplitl [Hb]; · iexact Hb
  iintro Hb
  ihave Ha := Own.any $$ Ha
  ihave HA := Own.any $$ HA
  iapply (ld_any aV (fun _ => rfl))
  isplitl [Ha]; · iexact Ha
  iintro Ha
  iapply (st_tile aV (addV A B))
  isplitl [Ha]; · iexact Ha
  iintro Ha
  iapply (cpVH_tri 0 aV (cT k t d) aV_word (cT_word k t d) tile_pos hO fullShare (addV A B)).use
  isplitl [Ha HA Hv0 HO]
  · isplitr; · iexact Hl
    isplitl [Ha]; · iexact Ha
    isplitl [HA]; · iexact HA
    isplitl [Hv0]; · iexact Hv0
    iexact HO
  iintro ⟨Ha, HA, Hv0, HO⟩
  ihave Ha := Own.any $$ Ha
  ihave Hb := Own.any $$ Hb
  isplitr [HA]
  · isplitr; · iexact Hl
    isplitl [HO]; · iexact HO
    isplitl [Hv0]; · iexact Hv0
    isplitl [Hv1]; · iexact Hv1
    isplitl [Hx]; · iexact Hx
    isplitl [Hg]; · iexact Hg
    isplitl [Ha]; · iexact Ha
    iexact Hb
  iexact HA

/-- The result is written from the last sum. -/
theorem rsFin_tri (hO : Above 0 O) (d : Fin 2) (t : Fin 4) (o : HOff) (A B : S256x4096.Idx → Elt F .f32) (SX SW : S1.Idx → Elt F .f32) :
    Tri c iprop((Gear c O ∗ Own sxM c fullShare SX ∗ Own swM c fullShare SW)
        ∗ Own (cT 2 t d) c fullShare A ∗ Own (hT parM o) c fullShare B ∗ Any (hT outM o) c) (rsFin d t o)
      iprop((Gear c O ∗ Own sxM c fullShare SX ∗ Own swM c fullShare SW) ∗ Own (hT outM o) c fullShare (epiV A B (SX z1) (SW z1))) := by
  unfold Tri
  simp only [rsFin, ldV, stV, Prog.lift, Prog.bind_op, Prog.bind_ret, Prog.pure_eq_ret]
  unfold Gear
  iintro ⟨⟨⟨#Hl, HO, Hv0, Hv1, Hx, Hg, Ha, Hb⟩, Hsx, Hsw⟩, HA, HB, Hd⟩
  iapply (readAB_tri hO 2 d t o A B).useBind
  isplitr [Hx Hg Hsx Hsw Hd]
  · isplitr; · iexact Hl
    isplitl [HO]; · iexact HO
    isplitl [Hv0 Hv1]
    · isplitl [Hv0]; · iexact Hv0
      iexact Hv1
    isplitl [Ha Hb]
    · isplitl [Ha]; · iexact Ha
      iexact Hb
    isplitl [HA]; · iexact HA
    iexact HB
  iintro ⟨HO, ⟨Hv0, Hv1⟩, ⟨Ha, Hb⟩, HA, HB⟩
  iapply (ld_tile aV fullShare A)
  isplitl [Ha]; · iexact Ha
  iintro Ha
  iapply (ld_tile bV fullShare B)
  isplitl [Hb]; · iexact Hb
  iintro Hb
  ihave Ha := Own.any $$ Ha
  ihave Hb := Own.any $$ Hb
  iapply (ld_scale sxM fullShare SX)
  isplitl [Hsx]; · iexact Hsx
  iintro Hsx
  iapply (ld_scale swM fullShare SW)
  isplitl [Hsw]; · iexact Hsw
  iintro Hsw
  iapply (ld_any gV (fun _ => rfl))
  isplitl [Hg]; · iexact Hg
  iintro Hg
  iapply (st_tile gV (epiV A B (SX z1) (SW z1)))
  isplitl [Hg]; · iexact Hg
  iintro Hg
  iapply (cpVH_tri 0 gV (hT outM o) gV_word (hT_word _ o) tile_pos hO fullShare (epiV A B (SX z1) (SW z1))).use
  isplitl [Hg Hd Hv0 HO]
  · isplitr; · iexact Hl
    isplitl [Hg]; · iexact Hg
    isplitl [Hd]; · iexact Hd
    isplitl [Hv0]; · iexact Hv0
    iexact HO
  iintro ⟨Hg, Hd, Hv0, HO⟩
  ihave Hg := Own.any $$ Hg
  isplitr [Hd]
  · isplitr [Hsx Hsw]
    · isplitr; · iexact Hl
      isplitl [HO]; · iexact HO
      isplitl [Hv0]; · iexact Hv0
      isplitl [Hv1]; · iexact Hv1
      isplitl [Hx]; · iexact Hx
      isplitl [Hg]; · iexact Hg
      isplitl [Ha]; · iexact Ha
      iexact Hb
    isplitl [Hsx]; · iexact Hsx
    iexact Hsw
  iexact Hd

end Parts

end Cert.KernelIdeal.Ring
-- ==== Proof.Chunks.lean ====
/- Where the tiles lie: the chunk of rows each step of the ring works on, as a number of hops from the device. -/
module

public import proofs.«01_k».proof.Proof.Parts

@[expose] public section

noncomputable section

namespace Cert.KernelIdeal.Ring

open Cert.KernelIdeal.Gen Cert.KernelIdeal.Plain
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Chunks -/

set_option backward.proofsInPublic true in
/-- The chunk `k` hops behind device `c` against direction `d` (direction 0 sends to the next device, 1 to the one before). -/
def hop (d : Fin 2) (c : Fin 4) (k : ℕ) : Fin 4 := ⟨(c.val + k * (![3, 1] : Fin 2 → ℕ) d) % 4, Nat.mod_lt _ (by decide)⟩

theorem hop_hop (d : Fin 2) (c : Fin 4) (k l : ℕ) : hop d (hop d c k) l = hop d c (k + l) := by
  apply Fin.ext; show ((c.val + k * _) % 4 + l * _) % 4 = _; rw [Nat.mod_add_mod, Nat.add_assoc, ← Nat.add_mul]; rfl
theorem hop_zero (d : Fin 2) (c : Fin 4) : hop d c 0 = c := by revert d c; decide
theorem hop_four (d : Fin 2) (c : Fin 4) (k : ℕ) : hop d c (k + 4) = hop d c k := by
  rw [Nat.add_comm, ← hop_hop]; congr 1; revert d c; decide

theorem hO_inb (j q : Fin 4) (d : Fin 2) : ∀ a, (![1024 * j.val + 256 * q.val, 4096 * d.val] : Fin 2 → ℕ) a + S256x4096.size a ≤ S4096x8192.size a := by
  revert j q d; decide +kernel
/-- The tile of chunk `j`, row tile `q`, half `d`. -/
def hO (j q : Fin 4) (d : Fin 2) : HOff := ⟨![1024 * j.val + 256 * q.val, 4096 * d.val], hO_inb j q d⟩

/-- The chunk computed `i`-th: the own one, then those of one, three and two hops. -/
def ord : Fin 4 → ℕ := ![0, 1, 3, 2]

theorem xO_inb (j q : Fin 4) : ∀ a, (![1024 * j.val + 256 * q.val, 0] : Fin 2 → ℕ) a + S256x1024.size a ≤ S4096x1024.size a := by
  revert j q; decide +kernel
theorem off_x : ∀ (c : Dev nD) (i q : Fin 4), ((offs c).x i q).1 = ![1024 * (hop 0 c (ord i)).val + 256 * q.val, 0] := by decide +kernel
theorem off_p : ∀ (c : Dev nD) (i : Fin 4) (d : Fin 2) (q : Fin 4), ((offs c).p i d q).1 = (hO (hop 0 c (ord i)) q d).1 := by decide +kernel
theorem off_s : ∀ (c : Dev nD) (d : Fin 2) (q : Fin 4), ((offs c).s d q).1 = (hO c q d).1 := by decide +kernel
theorem off_r : ∀ (c : Dev nD) (k : Fin 3) (d : Fin 2) (q : Fin 4), ((offs c).r k d q).1 = (hO (hop d c (k.val + 1)) q d).1 := by decide +kernel
theorem off_a : ∀ (c : Dev nD) (t : Fin 3) (d : Fin 2) (q : Fin 4), ((offs c).a t d q).1 = (hO (hop d c (t.val + 3)) q d).1 := by decide +kernel
theorem nbr_eq : ∀ (c : Dev nD) (d : Fin 2), nbr c d = hop d c 3 := by decide +kernel

/-- The tile of rows `q` of chunk `j`. -/
def xO (j q : Fin 4) : XOff := ⟨![1024 * j.val + 256 * q.val, 0], xO_inb j q, by
  have h := ((offs j).x 0 q).2.2
  have e := off_x j 0 q
  rw [show hop 0 j (ord 0) = j from hop_zero 0 j] at e
  simpa only [e] using h⟩

/-- The offsets in closed form. -/
def places (c : Dev nD) : Offs where
  x i q := xO (hop 0 c (ord i)) q
  p i d q := hO (hop 0 c (ord i)) q d
  s d q := hO c q d
  r k d q := hO (hop d c (k.val + 1)) q d
  a t d q := hO (hop d c (t.val + 3)) q d

theorem offs_eq (c : Dev nD) : offs c = places c := by
  have hx : (offs c).x = (places c).x := funext fun i => funext fun q => Subtype.ext (off_x c i q)
  have hp : (offs c).p = (places c).p := funext fun i => funext fun d => funext fun q => Subtype.ext (off_p c i d q)
  have hs : (offs c).s = (places c).s := funext fun d => funext fun q => Subtype.ext (off_s c d q)
  have hr : (offs c).r = (places c).r := funext fun i => funext fun d => funext fun q => Subtype.ext (off_r c i d q)
  have ha : (offs c).a = (places c).a := funext fun i => funext fun d => funext fun q => Subtype.ext (off_a c i d q)
  generalize offs c = o at *
  cases o
  simp only at hx hp hs hr ha
  subst hx hp hs hr ha
  rfl

/-- Tile `j`, `q`, `d` of the partial product and of the result. -/
def pT (j q : Fin 4) (d : Fin 2) : Memref sig .tc .hbm S256x4096 .f32 := hT parM (hO j q d)
def oT (j q : Fin 4) (d : Fin 2) : Memref sig .tc .hbm S256x4096 .f32 := hT outM (hO j q d)

end Cert.KernelIdeal.Ring
-- ==== Proof.Tiles.lean ====
/- The arrays cut into their tiles. -/
module

public import proofs.«01_k».proof.Proof.Chunks
public import Idealize.ShloMosaic.Lib.ViewIndex

@[expose] public section

noncomputable section

namespace Cert.KernelIdeal.Ring

open Cert.KernelIdeal.Gen Cert.KernelIdeal.Plain
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem hO_disjoint {j q j' q' : Fin 4} {d d' : Fin 2} (h : (j, q, d) ≠ (j', q', d')) :
    Disjoint (Rect.unit (s := S4096x8192) (hO j q d).1 S256x4096.size (hO j q d).2).set
      (Rect.unit (s := S4096x8192) (hO j' q' d').1 S256x4096.size (hO j' q' d').2).set := by
  have hq := q.isLt; have hq' := q'.isLt
  by_cases h1 : 1024 * j.val + 256 * q.val = 1024 * j'.val + 256 * q'.val
  · have hd : d.val ≠ d'.val := fun e => h (by
      have e1 : j = j' := Fin.ext (by omega)
      have e2 : q = q' := Fin.ext (by omega)
      rw [e1, e2, Fin.ext e])
    refine Rect.unit_disjoint (1 : Fin 2) ?_
    show 4096 * d.val + 4096 ≤ 4096 * d'.val ∨ 4096 * d'.val + 4096 ≤ 4096 * d.val
    omega
  · refine Rect.unit_disjoint (0 : Fin 2) ?_
    show 1024 * j.val + 256 * q.val + 256 ≤ 1024 * j'.val + 256 * q'.val ∨ 1024 * j'.val + 256 * q'.val + 256 ≤ 1024 * j.val + 256 * q.val
    omega

/-- An array held whole is its tiles held. -/
theorem any_tiles (M : Memref sig .tc .hbm S4096x8192 .f32) (c : Dev nD) :
    (Any M c : SP F) ⊢ bigSep Finset.univ fun j : Fin 4 => bigSep Finset.univ fun q : Fin 4 => bigSep Finset.univ fun d : Fin 2 => Any (hT M (hO j q d)) c := by
  have e : (bigSep Finset.univ fun j : Fin 4 => bigSep Finset.univ fun q : Fin 4 => bigSep Finset.univ fun d : Fin 2 => Any (F := F) (hT M (hO j q d)) c)
      = bigSep Finset.univ fun t : Fin 4 × Fin 4 × Fin 2 => Any (F := F) (hT M (hO t.1 t.2.1 t.2.2)) c := by
    rw [bigSep_univ_prod]
    refine bigSep_congr fun j _ => ?_
    rw [bigSep_univ_prod]
  rw [e]
  refine exists_elim fun f => ?_
  iintro H
  have hsub : (Finset.univ.biUnion fun t : Fin 4 × Fin 4 × Fin 2 => (hT M (hO t.1 t.2.1 t.2.2)).view.set) ⊆ M.view.set :=
    Finset.biUnion_subset.mpr fun t _ => View.set_slice_subset (v := M.view) _
  icases (pointsTo_split_subset hsub).1 $$ H with ⟨H, -⟩
  have hp := pointsTo_biUnion (ℓ := M.view.loc (c : Thread nD τ)) (q := fullShare) (f := f) (Ix := Unit) (Name := ℕ) (U := UU) (Lvl := ℕ) Finset.univ
    (fun t : Fin 4 × Fin 4 × Fin 2 => (hT M (hO t.1 t.2.1 t.2.2)).view.set)
    (fun t _ t' _ ht => View.disjoint_slice (v := M.view) (hO_disjoint ht))
  ihave H := (Entails.of_eq hp) $$ H
  have hm : (bigSep Finset.univ fun t : Fin 4 × Fin 4 × Fin 2 => (M.view.loc (c : Thread nD τ) ↦[(hT M (hO t.1 t.2.1 t.2.2)).view.set]{fullShare} f : SP F))
      ⊢ bigSep Finset.univ fun t : Fin 4 × Fin 4 × Fin 2 => Any (hT M (hO t.1 t.2.1 t.2.2)) c :=
    bigSep_mono fun t _ => by
      unfold Any
      exact BIClass.exists_intro (PROP := SP F) (Φ := fun g : Buf (Elt F) ((hT M (hO t.1 t.2.1 t.2.2)).view.loc (c : Thread nD τ)) =>
        (hT M (hO t.1 t.2.1 t.2.2)).view.loc (c : Thread nD τ) ↦[(hT M (hO t.1 t.2.1 t.2.2)).view.set]{fullShare} g) f
  iapply hm $$ H

theorem cT_disjoint {k k' : Fin 3} {q q' : Fin 4} {d d' : Fin 2} (h : (k, q, d) ≠ (k', q', d')) :
    Disjoint (Rect.unit (s := S3x1024x8192) ![k.val, 256 * q.val, 4096 * d.val] S1x256x4096.size (cT_inb k q d)).set
      (Rect.unit (s := S3x1024x8192) ![k'.val, 256 * q'.val, 4096 * d'.val] S1x256x4096.size (cT_inb k' q' d')).set := by
  by_cases h1 : k.val = k'.val
  · by_cases h2 : q.val = q'.val
    · have hd : d.val ≠ d'.val := fun e => h (by rw [Fin.ext h1, Fin.ext h2, Fin.ext e])
      refine Rect.unit_disjoint (2 : Fin 3) ?_
      show 4096 * d.val + 4096 ≤ 4096 * d'.val ∨ 4096 * d'.val + 4096 ≤ 4096 * d.val
      omega
    · refine Rect.unit_disjoint (1 : Fin 3) ?_
      show 256 * q.val + 256 ≤ 256 * q'.val ∨ 256 * q'.val + 256 ≤ 256 * q.val
      omega
  · refine Rect.unit_disjoint (0 : Fin 3) ?_
    show k.val + 1 ≤ k'.val ∨ k'.val + 1 ≤ k.val
    omega

/-- The landing array held whole is its tiles held. -/
theorem any_land (c : Dev nD) :
    (Any comM c : SP F) ⊢ bigSep Finset.univ fun k : Fin 3 => bigSep Finset.univ fun q : Fin 4 => bigSep Finset.univ fun d : Fin 2 => Any (cT k q d) c := by
  have e : (bigSep Finset.univ fun k : Fin 3 => bigSep Finset.univ fun q : Fin 4 => bigSep Finset.univ fun d : Fin 2 => Any (F := F) (cT k q d) c)
      = bigSep Finset.univ fun t : Fin 3 × Fin 4 × Fin 2 => Any (F := F) (cT t.1 t.2.1 t.2.2) c := by
    rw [bigSep_univ_prod]
    refine bigSep_congr fun j _ => ?_
    rw [bigSep_univ_prod]
  rw [e]
  refine exists_elim fun f => ?_
  iintro H
  have hs : ∀ t : Fin 3 × Fin 4 × Fin 2, (cT t.1 t.2.1 t.2.2).view.set
      = (comM.view.slice (Rect.unit (s := S3x1024x8192) ![t.1.val, 256 * t.2.1.val, 4096 * t.2.2.val] S1x256x4096.size (cT_inb t.1 t.2.1 t.2.2))).set :=
    fun t => View.set_reshape _ _
  have hsub : (Finset.univ.biUnion fun t : Fin 3 × Fin 4 × Fin 2 => (cT t.1 t.2.1 t.2.2).view.set) ⊆ comM.view.set :=
    Finset.biUnion_subset.mpr fun t _ => by rw [hs]; exact View.set_slice_subset (v := comM.view) _
  icases (pointsTo_split_subset hsub).1 $$ H with ⟨H, -⟩
  have hp := pointsTo_biUnion (ℓ := comM.view.loc (c : Thread nD τ)) (q := fullShare) (f := f) (Ix := Unit) (Name := ℕ) (U := UU) (Lvl := ℕ) Finset.univ
    (fun t : Fin 3 × Fin 4 × Fin 2 => (cT t.1 t.2.1 t.2.2).view.set)
    (fun t _ t' _ ht => by rw [hs, hs]; exact View.disjoint_slice (v := comM.view) (cT_disjoint ht))
  ihave H := (Entails.of_eq hp) $$ H
  have hm : (bigSep Finset.univ fun t : Fin 3 × Fin 4 × Fin 2 => (comM.view.loc (c : Thread nD τ) ↦[(cT t.1 t.2.1 t.2.2).view.set]{fullShare} f : SP F))
      ⊢ bigSep Finset.univ fun t : Fin 3 × Fin 4 × Fin 2 => Any (cT t.1 t.2.1 t.2.2) c :=
    bigSep_mono fun t _ => by
      unfold Any
      exact BIClass.exists_intro (PROP := SP F) (Φ := fun g : Buf (Elt F) ((cT t.1 t.2.1 t.2.2).view.loc (c : Thread nD τ)) =>
        (cT t.1 t.2.1 t.2.2).view.loc (c : Thread nD τ) ↦[(cT t.1 t.2.1 t.2.2).view.set]{fullShare} g) f
  iapply hm $$ H

/-- Every place of the result lies in a tile. -/
theorem tile_of (i : S4096x8192.Idx) : ∃ (j q : Fin 4) (d : Fin 2) (y : S256x4096.Idx),
    (Rect.unit (s := S4096x8192) (hO j q d).1 S256x4096.size (hO j q d).2).emb y = i := by
  have h0 : (i (0 : Fin 2)).val < 4096 := (i (0 : Fin 2)).isLt
  have h1 : (i (1 : Fin 2)).val < 8192 := (i (1 : Fin 2)).isLt
  let j : Fin 4 := ⟨(i (0 : Fin 2)).val / 1024, by omega⟩
  let q : Fin 4 := ⟨(i (0 : Fin 2)).val % 1024 / 256, by omega⟩
  let d : Fin 2 := ⟨(i (1 : Fin 2)).val / 4096, by omega⟩
  have hm : i ∈ (Rect.unit (s := S4096x8192) (hO j q d).1 S256x4096.size (hO j q d).2).set := by
    refine Rect.mem_set_unit.mpr fun a => ?_
    match a with
    | ⟨0, _⟩ =>
      show 1024 * ((i (0 : Fin 2)).val / 1024) + 256 * ((i (0 : Fin 2)).val % 1024 / 256) ≤ (i (0 : Fin 2)).val
        ∧ (i (0 : Fin 2)).val < 1024 * ((i (0 : Fin 2)).val / 1024) + 256 * ((i (0 : Fin 2)).val % 1024 / 256) + 256
      omega
    | ⟨1, _⟩ =>
      show 4096 * ((i (1 : Fin 2)).val / 4096) ≤ (i (1 : Fin 2)).val ∧ (i (1 : Fin 2)).val < 4096 * ((i (1 : Fin 2)).val / 4096) + 4096
      omega
  rw [← Rect.map_emb_univ] at hm
  obtain ⟨y, -, e⟩ := Finset.mem_map.mp hm
  exact ⟨j, q, d, y, e⟩

end Cert.KernelIdeal.Ring
-- ==== Proof.Sched.lean ====
/- The protocol: what every transfer carries, who owes it, and the schedule of the semaphores. -/
module

public import proofs.«01_k».proof.Proof.Tiles

@[expose] public section

noncomputable section

namespace Cert.KernelIdeal.Ring

open Cert.KernelIdeal.Gen Cert.KernelIdeal.Plain
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the devices hold at the start and what is carried -/

/-- The operands of every device. -/
structure Ins (F : FTy → Type) where
  x : Dev nD → S4096x1024.Idx → Elt F .i8
  w : Dev nD → S1024x8192.Idx → Elt F .i8
  sx : Dev nD → S1.Idx → Elt F .f32
  sw : Dev nD → S1.Idx → Elt F .f32

/-- Device `c`'s partial product for chunk `j`: its tile. -/
def pt (I : Ins F) (c : Dev nD) (j q : Fin 4) (d : Fin 2) : FVec F S256x4096 .f32 := dotV (xRows (I.x c) (xO j q)) (wHalf (I.w c) d)
/-- What lands at step `k` of the reduce phase on device `c`: the sum over the `k + 1` devices before it. -/
def cv (I : Ins F) : ℕ → Fin 4 → Fin 2 → Dev nD → FVec F S256x4096 .f32
  | 0, q, d, c => pt I (hop d c 1) (hop d c 1) q d
  | k + 1, q, d, c => addV (cv I k q d (hop d c 1)) (pt I (hop d c 1) (hop d (hop d c 1) (k + 1)) q d)
/-- The result's tile of chunk `j`, made on the device one hop behind. -/
def ov (I : Ins F) (j q : Fin 4) (d : Fin 2) : FVec F S256x4096 .f32 :=
  epiV (cv I 2 q d (hop d j 1)) (pt I (hop d j 1) j q d) (I.sx (hop d j 1) z1) (I.sw (hop d j 1) z1)

/-! ## The semaphores -/

/-- A transfer's semaphore: departure (0) or arrival (1), step, row tile, direction. -/
abbrev CI : Type := Fin 2 × Fin 6 × Fin 4 × Fin 2
def cnum (i : CI) : ℕ := 2 + 24 * i.1.val + 48 * (i.2.1.val / 3) + 12 * i.2.2.2.val + 4 * (i.2.1.val % 3) + i.2.2.1.val
theorem cnum_lt (i : CI) : 2 ≤ cnum i ∧ cnum i < 98 := by
  have := i.1.isLt; have := i.2.1.isLt; have := i.2.2.1.isLt; have := i.2.2.2.isLt
  unfold cnum; omega
def csem (i : CI) : DmaSem sig := ⟨cnum i, by have := (cnum_lt i).2; show _ < 100; omega⟩
/-- The transfer of a semaphore's number. -/
def cdec (x : ℕ) : CI :=
  (⟨(x - 2) / 24 % 2, Nat.mod_lt _ (by decide)⟩, ⟨(3 * ((x - 2) / 48) + (x - 2) % 12 / 4) % 6, Nat.mod_lt _ (by decide)⟩,
    ⟨(x - 2) % 4, Nat.mod_lt _ (by decide)⟩, ⟨(x - 2) / 12 % 2, Nat.mod_lt _ (by decide)⟩)
theorem cdec_cnum (i : CI) : cdec (cnum i) = i := by
  obtain ⟨r, k, q, d⟩ := i
  revert r k q d; decide +kernel
theorem cnum_inj {i j : CI} (h : cnum i = cnum j) : i = j := by rw [← cdec_cnum i, ← cdec_cnum j, h]

abbrev barC (c : Dev nD) : GSem nD τ sig := ((c : Thread nD τ), .reg bar)
abbrev cellC (c : Dev nD) (i : CI) : GSem nD τ sig := ((c : Thread nD τ), .dma (csem i))

theorem csem_rsS (s : Fin 3) (q : Fin 4) (d : Fin 2) : rsS d s q = csem (0, ⟨s.val, by omega⟩, q, d) := by revert s q d; decide +kernel
theorem csem_rsR (s : Fin 3) (q : Fin 4) (d : Fin 2) : rsR d s q = csem (1, ⟨s.val, by omega⟩, q, d) := by revert s q d; decide +kernel
theorem csem_agS (s : Fin 3) (q : Fin 4) (d : Fin 2) : agS d s q = csem (0, ⟨3 + s.val, by omega⟩, q, d) := by revert s q d; decide +kernel
theorem csem_agR (s : Fin 3) (q : Fin 4) (d : Fin 2) : agR d s q = csem (1, ⟨3 + s.val, by omega⟩, q, d) := by revert s q d; decide +kernel

theorem lv_send (c : Dev nD) (k : Fin 6) (q : Fin 4) (d : Fin 2) : lv (cellC c (0, k, q, d)) () = 0 := by revert c k q d; decide +kernel
theorem lv_recv (c : Dev nD) (k : Fin 6) (q : Fin 4) (d : Fin 2) : lv (cellC c (1, k, q, d)) () = 2 + k.val := by revert c k q d; decide +kernel
theorem lv_bar (c : Dev nD) : lv (barC c) () = 1 := rfl

/-- What a tile's transfer credits. -/
def N : ℕ := (cT 0 0 0).view.dmaCredit
theorem credit_h (M : Memref sig .tc .hbm S4096x8192 .f32) (o : HOff) : (hT M o).view.dmaCredit = N := rfl
theorem credit_c (s : Fin 3) (q : Fin 4) (d : Fin 2) : (cT s q d).view.dmaCredit = N := rfl
theorem N_pos : 0 < N := credit_pos _ tile_pos

/-! ## The schedule -/

/-- What the arrival of step `k` brings to device `c`: a landing tile holding the running sum, or a tile of the result. -/
def recvPay (I : Ins F) (c : Dev nD) (k : ℕ) (q : Fin 4) (d : Fin 2) : sProp 𝕄 :=
  if k < 3 then Own (cT ⟨k % 3, Nat.mod_lt _ (by decide)⟩ q d) c fullShare (cv I k q d c)
  else Own (oT (hop d c (k - 3)) q d) c fullShare (ov I (hop d c (k - 3)) q d)
/-- A departure gives nothing back. -/
def cellPay (I : Ins F) (c : Dev nD) (i : CI) : sProp 𝕄 := if i.1 = 1 then recvPay I c i.2.1.val i.2.2.1 i.2.2.2 else iprop(emp)
/-- What device `b` lets its sender of direction `e` write: its landing tiles and the tiles of the result that come. -/
def lend (e : Fin 2) (b : Dev nD) : sProp 𝕄 :=
  iprop((bigSep Finset.univ fun k : Fin 3 => bigSep Finset.univ fun q : Fin 4 => Any (cT k q e) b)
    ∗ bigSep Finset.univ fun t : Fin 3 => bigSep Finset.univ fun q : Fin 4 => Any (oT (hop e b t.val) q e) b)

omit [FloatOps F] in
instance lend_storable (e : Fin 2) (b : Dev nD) : BI.Storable (upEmb : UEmb _ 𝕄) (lend (F := F) e b) := by unfold lend; infer_instance
instance cellPay_storable (I : Ins F) (c : Dev nD) (i : CI) : BI.Storable (upEmb : UEmb _ 𝕄) (cellPay I c i) := by
  unfold cellPay recvPay
  split
  · split <;> infer_instance
  · infer_instance

def Rd (I : Ins F) : Rounds.Schedule (GSem nD τ sig) (Fin 2) 𝕄 where
  duties g r := if r = 0 then (match g.2 with
    | .reg _ => Finset.univ
    | .dma _ => {0}) else ∅
  unitless _ := False
  amount g r d := match g.2 with
    | .reg _ => 1
    | .dma _ => N
  payload g r e := match g.2 with
    | .reg _ => lend e (hop e g.1.1 3)
    | .dma x => cellPay I g.1.1 (cdec x.val)
  amount_pos g r d _ := by
    obtain ⟨t, sm⟩ := g
    cases sm with
    | reg s => exact Nat.one_pos
    | dma x => exact N_pos

instance (I : Ins F) (g : GSem nD τ sig) (r : ℕ) (d : Fin 2) : BI.Storable (upEmb : UEmb _ 𝕄) ((Rd I).payload g r d) := by
  obtain ⟨t, sm⟩ := g
  cases sm with
  | reg s => show BI.Storable _ (lend _ _); infer_instance
  | dma x => show BI.Storable _ (cellPay _ _ _); infer_instance

section Facts
variable (I : Ins F) (c : Dev nD) (i : CI)

theorem duties_later (g : GSem nD τ sig) : ∀ r, 0 + 1 ≤ r → (Rd I).duties g r = ∅ := fun r hr => if_neg (by omega)
theorem duties_bar : (Rd I).duties (barC c) 0 = Finset.univ := rfl
theorem duties_cell : (Rd I).duties (cellC c i) 0 = {0} := rfl
theorem payload_bar (e : Fin 2) : (Rd I).payload (barC c) 0 e = lend e (hop e c 3) := rfl
theorem payload_cell (e : Fin 2) : (Rd I).payload (cellC c i) 0 e = cellPay I c i := by
  show cellPay I c (cdec (cnum i)) = _
  rw [cdec_cnum]
theorem expect_bar : (Rd I).expect (barC c) 0 = 2 := by
  unfold Schedule.expect Schedule.amountOf; rw [duties_bar]; rfl
theorem expect_one (R : Rounds.Schedule (GSem nD τ sig) (Fin 2) 𝕄) (g : GSem nD τ sig) (h : R.duties g 0 = {0}) : R.expect g 0 = R.amount g 0 0 := by
  unfold Schedule.expect Schedule.amountOf; rw [h, Finset.sum_singleton]
theorem expect_cell : (Rd I).expect (cellC c i) 0 = N := (expect_one (Rd I) (cellC c i) (duties_cell I c i)).trans rfl
theorem rest_bar : (bigSep ((Rd I).duties (barC c) 0 \ ∅) fun e => (Rd I).payload (barC c) 0 e)
    = iprop(lend 0 (hop 0 c 3) ∗ lend 1 (hop 1 c 3)) := by
  rw [duties_bar, Finset.sdiff_empty, sep_fin_succ, sep_fin_succ, Finset.univ_eq_empty, bigSep_empty]
  exact BI.Entails.antisymm (sep_mono_right (sep_emp (PROP := sProp 𝕄)).1) (sep_mono_right (sep_emp (PROP := sProp 𝕄)).2)
theorem rest_cell : (bigSep ((Rd I).duties (cellC c i) 0 \ ∅) fun e => (Rd I).payload (cellC c i) 0 e) = cellPay I c i := by
  rw [duties_cell, Finset.sdiff_empty, bigSep_singleton, payload_cell]
end Facts

/-! ## Debts -/

/-- The `n`-th transfer a device makes: eight per step, both directions of every row tile. -/
def nth (n : ℕ) : CI := (1, ⟨n / 8 % 6, Nat.mod_lt _ (by decide)⟩, ⟨n / 2 % 4, Nat.mod_lt _ (by decide)⟩, ⟨n % 2, Nat.mod_lt _ (by decide)⟩)
theorem nth_eq (k : Fin 6) (q : Fin 4) (d : Fin 2) : nth (8 * k.val + (2 * q.val + d.val)) = (1, k, q, d) := by revert k q d; decide +kernel
/-- The arrival the `n`-th transfer of device `c` is awaited at. -/
def dest (c : Dev nD) (n : ℕ) : GSem nD τ sig := cellC (hop (nth n).2.2.2 c 3) (nth n)
/-- What device `c` owes before its `n`-th transfer. -/
def rem (c : Dev nD) (n : ℕ) : CellTallies nD τ sig Unit := ∑ i ∈ Finset.Ico n 48, tallyAt (dest c i) () N

theorem rem_succ (c : Dev nD) {n : ℕ} (h : n < 48) : rem c n = rem c (n + 1) + tallyAt (dest c n) () N := by
  unfold rem
  have e : Finset.Ico n 48 = insert n (Finset.Ico (n + 1) 48) := by
    ext i; rw [Finset.mem_insert, Finset.mem_Ico, Finset.mem_Ico]; omega
  rw [e, Finset.sum_insert (by rw [Finset.mem_Ico]; omega), add_comm]
theorem rem_end (c : Dev nD) : rem c 48 = 0 := by unfold rem; rw [Finset.Ico_self, Finset.sum_empty]

theorem tally_pos {g g' : GSem nD τ sig} {n : ℕ} {u : Unit} (h : 0 < tallyAt (Ix := Unit) g () n g' u) : g' = g := by
  by_contra hne
  rw [tallyAt_ne_cell hne] at h
  exact absurd h (lt_irrefl _)

theorem above_rem (c : Dev nD) {b n : ℕ} (h : 1 + n / 8 ≥ b) : Above b (rem c n) := by
  intro g u hg
  unfold rem at hg
  rw [Finset.sum_apply, Finsupp.finset_sum_apply] at hg
  obtain ⟨i, hi, hp⟩ := Finset.exists_ne_zero_of_sum_ne_zero hg.ne'
  have hi := Finset.mem_Ico.mp hi
  rw [tally_pos (Nat.pos_of_ne_zero hp)]
  refine ⟨rfl, ?_⟩
  show b < lv (cellC _ (1, _, _, _)) ()
  rw [lv_recv]
  show b < 2 + i / 8 % 6
  omega

/-- What a device owes at the start: every transfer and a signal to each neighbour. -/
def owed₀ (c : Dev nD) : CellTallies nD τ sig Unit := rem c 0 + tallyAt (barC (hop 1 c 3)) () 1 + tallyAt (barC (hop 0 c 3)) () 1

end Cert.KernelIdeal.Ring
-- ==== Proof.Remote.lean ====
/- What a device does with its neighbours: one judgement for a transfer, one for a wait, and the steps of the ring. -/
module

public import proofs.«01_k».proof.Proof.Sched

@[expose] public section

noncomputable section

namespace Cert.KernelIdeal.Ring

open Cert.KernelIdeal.Gen Cert.KernelIdeal.Plain
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Records and tokens -/

/-- A device's scheduled semaphores: the barrier and the transfers'. -/
abbrev KI : Type := Option CI
def kcell (x : Dev nD × KI) : GSem nD τ sig :=
  match x.2 with
  | none => barC x.1
  | some i => cellC x.1 i

/-- Every scheduled semaphore's invariant. -/
def Recs (I : Ins F) (K : Dev nD × KI → ℕ) : sProp 𝕄 :=
  bigSep Finset.univ fun x => iprop(cellInv ER (Rd I) (K x) (kcell x) ∗ reached ER (kcell x) 0)
instance Recs_persistent (I : Ins F) (K : Dev nD × KI → ℕ) : BI.Persistent (Recs I K) := by unfold Recs; infer_instance

theorem Recs_get (I : Ins F) (K : Dev nD × KI → ℕ) (x : Dev nD × KI) :
    Recs I K ⊢ iprop(cellInv ER (Rd I) (K x) (kcell x) ∗ reached ER (kcell x) 0) := by
  unfold Recs
  exact bigSep_elim (Finset.mem_univ x)

/-- What a wait consumes, -/
def Pos (c : Dev nD) (i : CI) : sProp 𝕄 := iprop(cred (tallyAt (cellC c i) () N) ∗ atPos ER (cellC c i) 0 ∅ 0)
/-- what a transfer consumes, -/
def Tok (c : Dev nD) (k : Fin 6) (q : Fin 4) (d : Fin 2) : sProp 𝕄 :=
  iprop(dutyTok ER (cellC c (0, k, q, d)) 0 (0 : Fin 2) ∗ dutyTok ER (cellC (hop d c 3) (1, k, q, d)) 0 (0 : Fin 2))
/-- and what it leaves. -/
def Gone (c : Dev nD) (k : Fin 6) (q : Fin 4) (d : Fin 2) : sProp 𝕄 := cred (tallyAt (cellC c (0, k, q, d)) () N)
/-- A semaphore back at zero. -/
def Zero (c : Dev nD) (i : CI) : sProp 𝕄 := semVal (cellC c i) 0

omit [FloatOps F] in
theorem own_intro {sp : Space} {s : Shape} {e : EltTy} (M : Memref sig .tc sp s e) (c : Dev nD) {q : PosShare TreeShare} {X : s.Idx → Elt F e}
    {f : Buf (Elt F) (M.view.loc (c : Thread nD τ))} (h : M.view.read (Elt F) f = X) :
    (M.view.loc (c : Thread nD τ) ↦[M.view.set]{q} f : SP F) ⊢ Own M c q X := by
  unfold Own
  iintro H
  iexists f; isplitr
  · ipureintro; exact h
  · iexact H

section Ops
variable (I : Ins F) (K : Dev nD × KI → ℕ) {c : Dev nD}

theorem wait_tri {O : CellTallies nD τ sig Unit} (i : CI) (hO : Above (lv (cellC c i) ()) O)
    (src dst : Memref sig .tc .hbm S256x4096 .f32) (h₁ : src.view.WordExact) (h₂ : dst.view.WordExact) (hN : dst.view.dmaCredit = N) :
    Tri c iprop(Recs I K ∗ levAts L lv ∗ owe c O ∗ Pos c i) (wait src dst h₁ h₂ (csem i))
      iprop(owe c O ∗ Zero c i ∗ cellPay I c i) := by
  unfold Tri
  simp only [wait, Prog.lift]
  unfold Pos owe Zero
  iintro ⟨#HR, #Hl, ⟨%W, HO⟩, Hc, Hat⟩
  icases (Recs_get I K (c, some i)) $$ HR with ⟨#Hi, #Hr⟩
  iapply (Rounds.wp_wait_rest_token 𝒱₀ ER (Rd I) (c : Thread nD τ) none (κ := K (c, some i)) (sm := .dma (csem i))
    (wpE_waitDma2_eq 𝒱₀ (c : Thread nD τ) none Set.univ) (Set.mem_univ _) () (O := O) (W := W) (R := 0) (m := 0) (T := ∅)
    (by rw [Nat.zero_add, expect_cell]; exact hN)) $$ [Hc HO Hat]
  · isplitr; · iexact Hi
    isplitl [Hc]; · rw [hN]; iexact Hc
    isplitl [HO]; · iexact HO
    isplitr; · iapply (hO.mayWait c (.dma (csem i)) le_rfl) $$ Hl
    iexact Hat
  iintro ⟨HO, Hat, -, Hp⟩
  ihave Hp := (Entails.of_eq (rest_cell I c i)) $$ Hp
  imod (Rounds.cell_close ER (Rd I) (Set.mem_univ (K (c, some i))) (fun h => h) (R := 0 + 1) (duties_later I (cellC c i))) $$ [Hat] with Hz
  · isplitr; · iexact Hi
    iexact Hat
  simp only [wp_ret]
  imodintro
  isplitl [HO]; · iexists _; iexact HO
  isplitl [Hz]; · iexact Hz
  iexact Hp

theorem send_tri (k : Fin 6) (q : Fin 4) (d : Fin 2) (src dst : Memref sig .tc .hbm S256x4096 .f32) (h₁ : src.view.WordExact)
    (h₂ : dst.view.WordExact) (hN : dst.view.dmaCredit = N) (q₀ : PosShare TreeShare) (X : S256x4096.Idx → Elt F .f32)
    (hpay : Own dst (hop d c 3) fullShare X ⊢ recvPay I (hop d c 3) k.val q d) (n : Dev nD) (hn : n = hop d c 3) :
    Tri c iprop(Recs I K ∗ owe c (rem c (8 * k.val + (2 * q.val + d.val))) ∗ Tok c k q d ∗ Own src c q₀ X ∗ Any dst (hop d c 3))
      (send n src dst h₁ h₂ (csem (0, k, q, d)) (csem (1, k, q, d)))
      iprop(owe c (rem c (8 * k.val + (2 * q.val + d.val) + 1)) ∗ Gone c k q d) := by
  have hlt : 8 * k.val + (2 * q.val + d.val) < 48 := by have := k.isLt; have := q.isLt; have := d.isLt; omega
  have hd : dest c (8 * k.val + (2 * q.val + d.val)) = cellC (hop d c 3) (1, k, q, d) := by unfold dest; rw [nth_eq]
  have hp₂ : (Rd I).payload (cellC (hop d c 3) (1, k, q, d)) 0 0 = recvPay I (hop d c 3) k.val q d := by
    rw [payload_cell]; unfold cellPay; exact if_pos rfl
  have hp₁ : (Rd I).payload (cellC c (0, k, q, d)) 0 0 = iprop(emp) := by
    rw [payload_cell]; unfold cellPay; exact if_neg (show ¬ ((0 : Fin 2) = 1) by decide)
  have hrem : rem c (8 * k.val + (2 * q.val + d.val)) = rem c (8 * k.val + (2 * q.val + d.val) + 1) + tallyAt (cellC (hop d c 3) (1, k, q, d)) () N := by
    rw [rem_succ c hlt, hd]
  subst hn
  unfold Tri
  simp only [send, Prog.lift]
  unfold Tok owe Gone Own Any
  iintro ⟨#HR, ⟨%W, HO⟩, ⟨Ht₁, Ht₂⟩, ⟨%f, %hf, Hs⟩, ⟨%g, Hd⟩⟩
  icases (Recs_get I K (c, some (0, k, q, d))) $$ HR with ⟨#Hi₁, #Hr₁⟩
  icases (Recs_get I K (hop d c 3, some (1, k, q, d))) $$ HR with ⟨#Hi₂, #Hr₂⟩
  have hq₁ : (src.view.loc (c : Thread nD τ) ↦[src.view.set]{q₀} f : SP F) ⊢ (Rd I).payload (cellC c (0, k, q, d)) 0 0 := by
    rw [hp₁]; exact Laws.affine
  have hq₂ : (dst.view.loc (Dev.tc (hop d c 3)) ↦[dst.view.set]{fullShare} (dst.view.write (Elt F) g (src.view.read (Elt F) f) Finset.univ) : SP F)
      ⊢ (Rd I).payload (cellC (hop d c 3) (1, k, q, d)) 0 0 := by
    rw [hp₂]
    exact (own_intro dst (hop d c 3) ((View.read_write_univ _ _).trans hf)).trans hpay
  iapply (Rounds.wp_send_pointsTo 𝒱₀ ER (Rd I) (c : Thread nD τ) none (κ₁ := K (c, some (0, k, q, d))) (κ₂ := K (hop d c 3, some (1, k, q, d)))
    (r₁ := 0) (r₂ := 0) (d₁ := 0) (d₂ := 0) (fs := f) (fd := g)
    (by rw [duties_cell]; exact Finset.mem_singleton_self _) (by rw [duties_cell]; exact Finset.mem_singleton_self _) () () N
    (show dst.view.amount (.dma (csem (1, k, q, d))) = N from hN) rfl rfl
    (rem c (8 * k.val + (2 * q.val + d.val) + 1)) hrem (W := W)
    hq₁ hq₂) $$ [Hs Hd HO Ht₁ Ht₂]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  simp only [wp_ret]
  imodintro
  isplitl [HO]; · iexists _; iexact HO
  iexact Hc

end Ops

end Cert.KernelIdeal.Ring
-- ==== Proof.Steps.lean ====
/- The steps of the ring: one judgement each. -/
module

public import proofs.«01_k».proof.Proof.Remote

@[expose] public section

noncomputable section

namespace Cert.KernelIdeal.Ring

open Cert.KernelIdeal.Gen Cert.KernelIdeal.Plain
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is carried, by step -/

theorem hop_back (d : Fin 2) (c : Dev nD) : hop d (hop d c 3) 1 = c := by rw [hop_hop]; exact (hop_four d c 0).trans (hop_zero d c)

section Pays
variable (I : Ins F)

theorem recvPay_rs (c : Dev nD) (s : Fin 3) (q : Fin 4) (d : Fin 2) :
    recvPay I c s.val q d = Own (cT s q d) c fullShare (cv I s.val q d c) := by
  unfold recvPay
  rw [if_pos s.isLt, show (⟨s.val % 3, Nat.mod_lt _ (by decide)⟩ : Fin 3) = s from Fin.ext (Nat.mod_eq_of_lt s.isLt)]
theorem recvPay_ag (c : Dev nD) (t : ℕ) (q : Fin 4) (d : Fin 2) :
    recvPay I c (3 + t) q d = Own (oT (hop d c t) q d) c fullShare (ov I (hop d c t) q d) := by
  unfold recvPay
  rw [if_neg (by omega), show 3 + t - 3 = t by omega]
theorem cv_step (k : ℕ) (q : Fin 4) (d : Fin 2) (c : Dev nD) :
    cv I (k + 1) q d (hop d c 3) = addV (cv I k q d c) (pt I c (hop d c (k + 1)) q d) := by
  rw [cv, hop_back]
theorem cv_start (q : Fin 4) (d : Fin 2) (c : Dev nD) : cv I 0 q d (hop d c 3) = pt I c c q d := by
  rw [cv, hop_back]
theorem ov_own (q : Fin 4) (d : Fin 2) (c : Dev nD) :
    ov I (hop d c 3) q d = epiV (cv I 2 q d c) (pt I c (hop d c 3) q d) (I.sx c z1) (I.sw c z1) := by
  unfold ov; rw [hop_back]
theorem cellPay_recv (c : Dev nD) (k : Fin 6) (q : Fin 4) (d : Fin 2) : cellPay I c (1, k, q, d) = recvPay I c k.val q d := if_pos rfl
end Pays

/-! ## The state -/

theorem Gear.open {c : Dev nD} {O : CellTallies nD τ sig Unit} (O' : CellTallies nD τ sig Unit) :
    (Gear c O : SP F) ⊢ iprop(levAts L lv ∗ owe c O ∗ (owe c O' -∗ Gear c O')) := by
  unfold Gear
  iintro ⟨#Hl, HO, H⟩
  isplitr; · iexact Hl
  isplitl [HO]; · iexact HO
  iintro HO
  isplitr; · iexact Hl
  isplitl [HO]; · iexact HO
  iexact H

/-- The records and the gear, before the `n`-th transfer. -/
def St (I : Ins F) (K : Dev nD × KI → ℕ) (c : Dev nD) (n : ℕ) : sProp 𝕄 := iprop(Recs I K ∗ Gear c (rem c n))
/-- The scales. -/
def Sc (I : Ins F) (c : Dev nD) : sProp 𝕄 := iprop(Own sxM c fullShare (I.sx c) ∗ Own swM c fullShare (I.sw c))

section Steps
variable (I : Ins F) (K : Dev nD × KI → ℕ) {c : Dev nD}

theorem waitS {n : ℕ} (i : CI) (hi : lv (cellC c i) () ≤ 1 + n / 8)
    (src dst : Memref sig .tc .hbm S256x4096 .f32) (h₁ : src.view.WordExact) (h₂ : dst.view.WordExact) (hN : dst.view.dmaCredit = N) :
    Tri c iprop(St I K c n ∗ Pos c i) (wait src dst h₁ h₂ (csem i)) iprop(St I K c n ∗ Zero c i ∗ cellPay I c i) := by
  unfold St
  refine ((wait_tri I K i (above_rem c hi) src dst h₁ h₂ hN).frame (R := iprop(Recs I K ∗ (owe c (rem c n) -∗ Gear c (rem c n))))).conseq ?_ ?_
  · iintro ⟨⟨#HR, HG⟩, HP⟩
    icases (Gear.open (rem c n)) $$ HG with ⟨#Hl, HO, HG⟩
    isplitr [HG]
    · isplitr; · iexact HR
      isplitr; · iexact Hl
      isplitl [HO]; · iexact HO
      iexact HP
    · isplitr; · iexact HR
      iexact HG
  · iintro ⟨⟨HO, HZ, HP⟩, #HR, HG⟩
    isplitl [HO HG]
    · isplitr; · iexact HR
      iapply HG $$ HO
    isplitl [HZ]; · iexact HZ
    iexact HP

theorem sendS (k : Fin 6) (q : Fin 4) (d : Fin 2) (src dst : Memref sig .tc .hbm S256x4096 .f32) (h₁ : src.view.WordExact)
    (h₂ : dst.view.WordExact) (hN : dst.view.dmaCredit = N) (q₀ : PosShare TreeShare) (X : S256x4096.Idx → Elt F .f32)
    (hpay : Own dst (hop d c 3) fullShare X ⊢ recvPay I (hop d c 3) k.val q d) (n : Dev nD) (hn : n = hop d c 3) :
    Tri c iprop(St I K c (8 * k.val + (2 * q.val + d.val)) ∗ Tok c k q d ∗ Own src c q₀ X ∗ Any dst (hop d c 3))
      (send n src dst h₁ h₂ (csem (0, k, q, d)) (csem (1, k, q, d)))
      iprop(St I K c (8 * k.val + (2 * q.val + d.val) + 1) ∗ Gone c k q d) := by
  unfold St
  refine ((send_tri I K k q d src dst h₁ h₂ hN q₀ X hpay n hn).frame
    (R := iprop(Recs I K ∗ (owe c (rem c (8 * k.val + (2 * q.val + d.val) + 1)) -∗ Gear c (rem c (8 * k.val + (2 * q.val + d.val) + 1)))))).conseq ?_ ?_
  · iintro ⟨⟨#HR, HG⟩, HT, HS, HD⟩
    icases (Gear.open (rem c (8 * k.val + (2 * q.val + d.val) + 1))) $$ HG with ⟨-, HO, HG⟩
    isplitr [HG]
    · isplitr; · iexact HR
      isplitl [HO]; · iexact HO
      isplitl [HT]; · iexact HT
      isplitl [HS]; · iexact HS
      iexact HD
    · isplitr; · iexact HR
      iexact HG
  · iintro ⟨⟨HO, HGo⟩, #HR, HG⟩
    isplitl [HO HG]
    · isplitr; · iexact HR
      iapply HG $$ HO
    iexact HGo

/-- A local judgement that keeps the gear. -/
theorem localS {p : P (F := F) PUnit} {n : ℕ} {A B : SP F} (h : Tri c iprop(Gear c (rem c n) ∗ A) p iprop(Gear c (rem c n) ∗ B)) :
    Tri c iprop(St I K c n ∗ A) p iprop(St I K c n ∗ B) := by
  unfold St
  refine (h.frame (R := Recs I K)).conseq ?_ ?_
  · iintro ⟨⟨#HR, HG⟩, HA⟩
    isplitl [HG HA]
    · isplitl [HG]; · iexact HG
      iexact HA
    · iexact HR
  · iintro ⟨⟨HG, HA⟩, #HR⟩
    isplitl [HG]
    · isplitr; · iexact HR
      iexact HG
    · iexact HA

theorem send0_tri (q : Fin 4) (d : Fin 2) (n : Dev nD) (hn : n = hop d c 3) :
    Tri c iprop(St I K c (2 * q.val + d.val) ∗ Tok c 0 q d ∗ Own (pT c q d) c fullShare (pt I c c q d) ∗ Any (cT 0 q d) (hop d c 3))
      (send0 n (hO c q d) d q) iprop(St I K c (2 * q.val + d.val + 1) ∗ Gone c 0 q d) := by
  have h := sendS I K (c := c) 0 q d (pT c q d) (cT 0 q d) (hT_word _ _) (cT_word 0 q d) (credit_c 0 q d) fullShare (pt I c c q d)
    (by rw [show ((0 : Fin 6).val) = (0 : Fin 3).val from rfl, recvPay_rs]; exact Entails.of_eq (by rw [← cv_start I q d c]; rfl)) n hn
  rw [show 8 * (0 : Fin 6).val + (2 * q.val + d.val) = 2 * q.val + d.val by show 8 * 0 + _ = _; omega] at h
  unfold send0
  rw [csem_rsS, csem_rsR]
  exact h

/-- A step of the reduce phase: the running sum arrives, the own tile is added, the sum is sent on. -/
theorem stepRS_tri (s : Fin 2) (q : Fin 4) (d : Fin 2) (n : Dev nD) (hn : n = hop d c 3) (src : Memref sig .tc .hbm S256x4096 .f32) (h₁ : src.view.WordExact) :
    Tri c iprop(St I K c (8 * (s.val + 1) + (2 * q.val + d.val)) ∗ Pos c (1, ⟨s.val, by omega⟩, q, d) ∗ Tok c ⟨s.val + 1, by omega⟩ q d
        ∗ Own (pT (hop d c (s.val + 1)) q d) c fullShare (pt I c (hop d c (s.val + 1)) q d) ∗ Any (cT s.succ q d) (hop d c 3))
      ((wait src (cT s.castSucc q d) h₁ (cT_word _ q d) (rsR d s.castSucc q)).bind fun _ =>
        (rsAdd s.castSucc d q (hO (hop d c (s.val + 1)) q d)).bind fun _ => sendRS n d s q)
      iprop(St I K c (8 * (s.val + 1) + (2 * q.val + d.val) + 1) ∗ Zero c (1, ⟨s.val, by omega⟩, q, d) ∗ Gone c ⟨s.val + 1, by omega⟩ q d) := by
  have hs := s.isLt
  have hq := q.isLt
  have hd := d.isLt
  have hw := waitS I K (c := c) (n := 8 * (s.val + 1) + (2 * q.val + d.val)) (1, ⟨s.val, by omega⟩, q, d) (by rw [lv_recv]; show 2 + s.val ≤ _; omega)
    src (cT s.castSucc q d) h₁ (cT_word _ q d) (credit_c _ _ _)
  have ha := localS I K (rsAdd_tri (c := c) (O := rem c (8 * (s.val + 1) + (2 * q.val + d.val))) (above_rem c (by omega)) s.castSucc d q
    (hO (hop d c (s.val + 1)) q d) (cv I s.val q d c) (pt I c (hop d c (s.val + 1)) q d))
  have hx := sendS I K (c := c) ⟨s.val + 1, by omega⟩ q d (cT s.castSucc q d) (cT s.succ q d) (cT_word _ q d) (cT_word _ q d) (credit_c _ q d) fullShare
    (addV (cv I s.val q d c) (pt I c (hop d c (s.val + 1)) q d))
    (by
      show _ ⊢ recvPay I (hop d c 3) s.succ.val q d
      rw [recvPay_rs]
      exact Entails.of_eq (by rw [← cv_step]; rfl)) n hn
  unfold sendRS
  rw [csem_rsS, csem_rsR, csem_rsR]
  refine Tri.bind ((hw.frame (R := iprop(Tok c ⟨s.val + 1, by omega⟩ q d
        ∗ Own (pT (hop d c (s.val + 1)) q d) c fullShare (pt I c (hop d c (s.val + 1)) q d) ∗ Any (cT s.succ q d) (hop d c 3)))).conseq ?_ .rfl)
    (Tri.bind ((ha.frame (R := iprop(Zero c (1, ⟨s.val, by omega⟩, q, d) ∗ Tok c ⟨s.val + 1, by omega⟩ q d ∗ Any (cT s.succ q d) (hop d c 3)))).conseq ?_ .rfl)
      ((hx.frame (R := Zero c (1, ⟨s.val, by omega⟩, q, d))).conseq ?_ ?_))
  · iintro ⟨HS, HP, HR⟩
    isplitr [HR]
    · isplitl [HS]; · iexact HS
      iexact HP
    iexact HR
  · iintro ⟨⟨HS, HZ, HP⟩, HT, Hp, HA⟩
    ihave HP := (Entails.of_eq ((cellPay_recv I c ⟨s.val, _⟩ q d).trans (recvPay_rs I c s.castSucc q d))) $$ HP
    isplitr [HZ HT HA]
    · isplitl [HS]; · iexact HS
      isplitl [HP]; · iexact HP
      iexact Hp
    isplitl [HZ]; · iexact HZ
    isplitl [HT]; · iexact HT
    iexact HA
  · iintro ⟨⟨HS, HP⟩, HZ, HT, HA⟩
    isplitr [HZ]
    · isplitl [HS]; · iexact HS
      isplitl [HT]; · iexact HT
      isplitl [HP]; · iexact HP
      iexact HA
    iexact HZ
  · iintro ⟨⟨HS, HG⟩, HZ⟩
    isplitl [HS]; · iexact HS
    isplitl [HZ]; · iexact HZ
    iexact HG

theorem step0_tri (q : Fin 4) (d : Fin 2) (n : Dev nD) (hn : n = hop d c 3) :
    Tri c iprop(St I K c (8 + (2 * q.val + d.val)) ∗ Pos c (1, 0, q, d) ∗ Tok c 1 q d
        ∗ Own (pT (hop d c 1) q d) c fullShare (pt I c (hop d c 1) q d) ∗ Any (cT 1 q d) (hop d c 3))
      (step0 n (hO c q d) (hO (hop d c 1) q d) q d)
      iprop(St I K c (8 + (2 * q.val + d.val) + 1) ∗ Zero c (1, 0, q, d) ∗ Gone c 1 q d) :=
  stepRS_tri I K 0 q d n hn (hT parM (hO c q d)) (hT_word _ _)

theorem step1_tri (q : Fin 4) (d : Fin 2) (n : Dev nD) (hn : n = hop d c 3) :
    Tri c iprop(St I K c (16 + (2 * q.val + d.val)) ∗ Pos c (1, 1, q, d) ∗ Tok c 2 q d
        ∗ Own (pT (hop d c 2) q d) c fullShare (pt I c (hop d c 2) q d) ∗ Any (cT 2 q d) (hop d c 3))
      (step1 n (hO (hop d c 2) q d) q d)
      iprop(St I K c (16 + (2 * q.val + d.val) + 1) ∗ Zero c (1, 1, q, d) ∗ Gone c 2 q d) :=
  stepRS_tri I K 1 q d n hn (cT 0 q d) (cT_word _ q d)

/-- The last step of the reduce phase: the result's own tile is written and sent. -/
theorem step2_tri (q : Fin 4) (d : Fin 2) (n : Dev nD) (hn : n = hop d c 3) :
    Tri c iprop((St I K c (24 + (2 * q.val + d.val)) ∗ Sc I c) ∗ Pos c (1, 2, q, d) ∗ Tok c 3 q d
        ∗ Own (pT (hop d c 3) q d) c fullShare (pt I c (hop d c 3) q d) ∗ Any (oT (hop d c 3) q d) c ∗ Any (oT (hop d c 3) q d) (hop d c 3))
      (step2 n (hO (hop d c 3) q d) (hO (hop d c 3) q d) q d)
      iprop((St I K c (24 + (2 * q.val + d.val) + 1) ∗ Sc I c) ∗ Zero c (1, 2, q, d) ∗ Gone c 3 q d
        ∗ Own (oT (hop d c 3) q d) c (PosShare.right fullShare) (ov I (hop d c 3) q d)) := by
  have hq := q.isLt
  have hd := d.isLt
  have hw := waitS I K (c := c) (n := 24 + (2 * q.val + d.val)) (1, 2, q, d) (by rw [lv_recv]; show 2 + 2 ≤ _; omega)
    (cT 1 q d) (cT 2 q d) (cT_word _ q d) (cT_word _ q d) (credit_c _ _ _)
  have ha := rsFin_tri (c := c) (O := rem c (24 + (2 * q.val + d.val))) (above_rem c (by omega)) d q
    (hO (hop d c 3) q d) (cv I 2 q d c) (pt I c (hop d c 3) q d) (I.sx c) (I.sw c)
  have hx := sendS I K (c := c) 3 q d (oT (hop d c 3) q d) (oT (hop d c 3) q d) (hT_word _ _) (hT_word _ _) (credit_h _ _) (PosShare.left fullShare)
    (ov I (hop d c 3) q d)
    (by
      show _ ⊢ recvPay I (hop d c 3) (3 + 0) q d
      rw [recvPay_ag, hop_zero]) n hn
  unfold step2 sendAG
  rw [csem_agS, csem_agR, csem_rsR]
  refine Tri.bind ((hw.frame (R := iprop(Sc I c ∗ Tok c 3 q d ∗ Own (pT (hop d c 3) q d) c fullShare (pt I c (hop d c 3) q d)
        ∗ Any (oT (hop d c 3) q d) c ∗ Any (oT (hop d c 3) q d) (hop d c 3)))).conseq ?_ .rfl)
    (Tri.bind ((ha.frame (R := iprop(Recs I K ∗ Zero c (1, 2, q, d) ∗ Tok c 3 q d ∗ Any (oT (hop d c 3) q d) (hop d c 3)))).conseq ?_ .rfl)
      ((hx.frame (R := iprop(Sc I c ∗ Zero c (1, 2, q, d) ∗ Own (oT (hop d c 3) q d) c (PosShare.right fullShare) (ov I (hop d c 3) q d)))).conseq ?_ ?_))
  · iintro ⟨⟨HS, Hc⟩, HP, HR⟩
    isplitl [HS HP]
    · isplitl [HS]; · iexact HS
      iexact HP
    isplitl [Hc]; · iexact Hc
    iexact HR
  · unfold St Sc
    iintro ⟨⟨⟨#HRe, HS⟩, HZ, HP⟩, ⟨Hsx, Hsw⟩, HT, Hp, Ho, HA⟩
    ihave HP := (Entails.of_eq ((cellPay_recv I c 2 q d).trans (recvPay_rs I c 2 q d))) $$ HP
    isplitr [HZ HT HA]
    · isplitl [HS Hsx Hsw]
      · isplitl [HS]; · iexact HS
        isplitl [Hsx]; · iexact Hsx
        iexact Hsw
      isplitl [HP]; · iexact HP
      isplitl [Hp]; · iexact Hp
      iexact Ho
    isplitr; · iexact HRe
    isplitl [HZ]; · iexact HZ
    isplitl [HT]; · iexact HT
    iexact HA
  · unfold St Sc
    iintro ⟨⟨⟨HS, Hsx, Hsw⟩, Ho⟩, #HRe, HZ, HT, HA⟩
    ihave Ho := (Entails.of_eq (show Own (hT outM (hO (hop d c 3) q d)) c fullShare (epiV (cv I 2 q d c) (pt I c (hop d c 3) q d) (I.sx c z1) (I.sw c z1))
      = Own (oT (hop d c 3) q d) c fullShare (ov I (hop d c 3) q d) by rw [ov_own]; rfl)) $$ Ho
    icases (Own.halves) $$ Ho with ⟨Ho, Hk⟩
    isplitr [HZ Hk Hsx Hsw]
    · isplitl [HS]
      · isplitr; · iexact HRe
        iexact HS
      isplitl [HT]; · iexact HT
      isplitl [Ho]; · iexact Ho
      iexact HA
    isplitl [Hsx Hsw]
    · isplitl [Hsx]; · iexact Hsx
      iexact Hsw
    isplitl [HZ]; · iexact HZ
    iexact Hk
  · iintro ⟨⟨HS, HG⟩, Hc, HZ, Hk⟩
    isplitl [HS Hc]
    · isplitl [HS]; · iexact HS
      iexact Hc
    isplitl [HZ]; · iexact HZ
    isplitl [HG]; · iexact HG
    iexact Hk

/-- A step of the gather phase: a tile of the result arrives and is sent on. -/
theorem stepG_tri (t : Fin 2) (q : Fin 4) (d : Fin 2) (n : Dev nD) (hn : n = hop d c 3) :
    Tri c iprop(St I K c (32 + 8 * t.val + (2 * q.val + d.val)) ∗ Pos c (1, ⟨3 + t.val, by omega⟩, q, d) ∗ Tok c ⟨4 + t.val, by omega⟩ q d
        ∗ Any (oT (hop d c t.val) q d) (hop d c 3))
      (stepG n t (hO (hop d c (t.val + 3)) q d) (hO (hop d c (t.val + 1 + 3)) q d) q d)
      iprop(St I K c (32 + 8 * t.val + (2 * q.val + d.val) + 1) ∗ Zero c (1, ⟨3 + t.val, by omega⟩, q, d) ∗ Gone c ⟨4 + t.val, by omega⟩ q d
        ∗ Own (oT (hop d c t.val) q d) c (PosShare.right fullShare) (ov I (hop d c t.val) q d)) := by
  have ht := t.isLt
  have hq := q.isLt
  have hd := d.isLt
  have hw := waitS I K (c := c) (n := 32 + 8 * t.val + (2 * q.val + d.val)) (1, ⟨3 + t.val, by omega⟩, q, d) (by rw [lv_recv]; show 2 + (3 + t.val) ≤ _; omega)
    (hT outM (hO (hop d c (t.val + 3)) q d)) (hT outM (hO (hop d c (t.val + 3)) q d)) (hT_word _ _) (hT_word _ _) (credit_h _ _)
  have hx := sendS I K (c := c) ⟨4 + t.val, by omega⟩ q d (oT (hop d c t.val) q d) (oT (hop d c t.val) q d) (hT_word _ _) (hT_word _ _) (credit_h _ _)
    (PosShare.left fullShare) (ov I (hop d c t.val) q d)
    (by
      show _ ⊢ recvPay I (hop d c 3) (4 + t.val) q d
      rw [show 4 + t.val = 3 + (t.val + 1) by omega, recvPay_ag, hop_hop, show 3 + (t.val + 1) = t.val + 4 by omega, hop_four]) n hn
  rw [show 8 * (⟨4 + t.val, by omega⟩ : Fin 6).val + (2 * q.val + d.val) = 32 + 8 * t.val + (2 * q.val + d.val) by show 8 * (4 + t.val) + _ = _; omega] at hx
  have e4 : (⟨3 + t.succ.val, by have := t.succ.isLt; omega⟩ : Fin 6) = ⟨4 + t.val, by omega⟩ := Fin.ext (by show 3 + (t.val + 1) = 4 + t.val; omega)
  unfold stepG sendAG
  rw [csem_agS, csem_agR, csem_agR, e4, show t.val + 1 + 3 = t.val + 4 by omega, hop_four]
  refine Tri.bind ((hw.frame (R := iprop(Tok c ⟨4 + t.val, by omega⟩ q d ∗ Any (oT (hop d c t.val) q d) (hop d c 3)))).conseq ?_ .rfl)
      ((hx.frame (R := iprop(Zero c (1, ⟨3 + t.val, by omega⟩, q, d) ∗ Own (oT (hop d c t.val) q d) c (PosShare.right fullShare) (ov I (hop d c t.val) q d)))).conseq ?_ ?_)
  · iintro ⟨HS, HP, HR⟩
    isplitl [HS HP]
    · isplitl [HS]; · iexact HS
      iexact HP
    iexact HR
  · iintro ⟨⟨HS, HZ, HP⟩, HT, HA⟩
    ihave HP := (Entails.of_eq ((cellPay_recv I c ⟨3 + t.val, _⟩ q d).trans (recvPay_ag I c t.val q d))) $$ HP
    icases (Own.halves) $$ HP with ⟨Ho, Hk⟩
    isplitr [HZ Hk]
    · isplitl [HS]; · iexact HS
      isplitl [HT]; · iexact HT
      isplitl [Ho]; · iexact Ho
      iexact HA
    isplitl [HZ]; · iexact HZ
    iexact Hk
  · iintro ⟨⟨HS, HG⟩, HZ, Hk⟩
    isplitl [HS]; · iexact HS
    isplitl [HZ]; · iexact HZ
    isplitl [HG]; · iexact HG
    iexact Hk

/-- The last tile arrives. -/
theorem stepL_tri (q : Fin 4) (d : Fin 2) (o : HOff) :
    Tri c iprop(St I K c 48 ∗ Pos c (1, 5, q, d)) (stepL o q d)
      iprop(St I K c 48 ∗ Zero c (1, 5, q, d) ∗ Own (oT (hop d c 2) q d) c (PosShare.right fullShare) (ov I (hop d c 2) q d)) := by
  have hw := waitS I K (c := c) (n := 48) (1, 5, q, d) (by rw [lv_recv]; decide)
    (hT outM o) (hT outM o) (hT_word _ _) (hT_word _ _) (credit_h _ _)
  unfold stepL
  rw [csem_agR]
  refine hw.conseq .rfl ?_
  iintro ⟨HS, HZ, HP⟩
  ihave HP := (Entails.of_eq ((cellPay_recv I c 5 q d).trans (recvPay_ag I c 2 q d))) $$ HP
  icases (Own.halves) $$ HP with ⟨-, Hk⟩
  isplitl [HS]; · iexact HS
  isplitl [HZ]; · iexact HZ
  iexact Hk

/-- A departure is awaited at the end. -/
theorem endS (k : Fin 6) (q : Fin 4) (d : Fin 2) (src dst : Memref sig .tc .hbm S256x4096 .f32) (h₁ : src.view.WordExact) (h₂ : dst.view.WordExact)
    (hN : dst.view.dmaCredit = N) :
    Tri c iprop(St I K c 48 ∗ Pos c (0, k, q, d)) (wait src dst h₁ h₂ (csem (0, k, q, d))) iprop(St I K c 48 ∗ Zero c (0, k, q, d)) := by
  refine (waitS I K (c := c) (n := 48) (0, k, q, d) (by rw [lv_send]; decide) src dst h₁ h₂ hN).conseq .rfl ?_
  iintro ⟨HS, HZ, -⟩
  isplitl [HS]; · iexact HS
  iexact HZ

theorem endRS0_tri (q : Fin 4) (d : Fin 2) (o : HOff) :
    Tri c iprop(St I K c 48 ∗ Pos c (0, 0, q, d)) (endRS0 o q d) iprop(St I K c 48 ∗ Zero c (0, 0, q, d)) := by
  unfold endRS0; rw [csem_rsS]; exact endS I K 0 q d _ _ _ _ (credit_h _ _)
theorem endRS_tri (s : Fin 2) (q : Fin 4) (d : Fin 2) :
    Tri c iprop(St I K c 48 ∗ Pos c (0, ⟨s.val + 1, by omega⟩, q, d)) (endRS s q d) iprop(St I K c 48 ∗ Zero c (0, ⟨s.val + 1, by omega⟩, q, d)) := by
  unfold endRS; rw [csem_rsS]; exact endS I K ⟨s.val + 1, by omega⟩ q d _ _ _ _ (credit_c _ _ _)
theorem endAG_tri (t : Fin 3) (q : Fin 4) (d : Fin 2) (o : HOff) :
    Tri c iprop(St I K c 48 ∗ Pos c (0, ⟨3 + t.val, by omega⟩, q, d)) (endAG o t q d) iprop(St I K c 48 ∗ Zero c (0, ⟨3 + t.val, by omega⟩, q, d)) := by
  unfold endAG; rw [csem_agS]; exact endS I K ⟨3 + t.val, by omega⟩ q d _ _ _ _ (credit_h _ _)

end Steps

end Cert.KernelIdeal.Ring
-- ==== Proof.Whole.lean ====
/- The whole body of a device: the meeting at the barrier, the products, the ring, and what it ends with. -/
module

public import proofs.«01_k».proof.Proof.Steps

@[expose] public section

noncomputable section

namespace Cert.KernelIdeal.Ring

open Cert.KernelIdeal.Gen Cert.KernelIdeal.Plain
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The meeting at the barrier -/

/-- The other direction. -/
def opp : Fin 2 → Fin 2 := ![1, 0]
theorem hop_opp : ∀ (c : Dev nD) (d : Fin 2), hop (opp d) (hop d c 3) 3 = c := by decide +kernel

section Meeting
variable (I : Ins F) (K : Dev nD × KI → ℕ) {c : Dev nD}

theorem signal_tri (d : Fin 2) (O : CellTallies nD τ sig Unit) (n : Dev nD) (hn : n = hop d c 3) :
    Tri c iprop(Recs I K ∗ owe c (O + tallyAt (barC (hop d c 3)) () 1) ∗ dutyTok ER (barC (hop d c 3)) 0 (opp d) ∗ lend (opp d) c)
      (semSignalWord n bar 1#32) (owe c O) := by
  subst hn
  have hp : (Rd I).payload (barC (hop d c 3)) 0 (opp d) = lend (opp d) c := by rw [payload_bar, hop_opp]
  unfold Tri
  simp only [semSignalWord, Prog.lift]
  unfold owe
  iintro ⟨#HR, ⟨%W, HO⟩, Ht, Hp⟩
  icases (Recs_get I K (hop d c 3, none)) $$ HR with ⟨#Hi, #Hr⟩
  ihave Hp := (Entails.of_eq hp.symm) $$ Hp
  iapply (Rounds.wp_signal 𝒱₀ ER (Rd I) (c : Thread nD τ) none (dst := (hop d c 3 : Thread nD τ)) (κ := K (hop d c 3, none))
      (d := opp d) (by rw [duties_bar]; exact Finset.mem_univ _) (show (1 : ℕ) = _ by decide) () O rfl) $$ [HO Ht Hp]
  · isplitr; · iexact Hi
    isplitl [HO]; · iexact HO
    isplitl [Ht]; · iexact Ht
    isplitl [Hp]; · iexact Hp
    iexact Hr
  iintro HO
  simp only [wp_ret]
  imodintro
  iexists _; iexact HO

theorem meet_tri {O : CellTallies nD τ sig Unit} (hO : Above 1 O) :
    Tri c iprop(Recs I K ∗ levAts L lv ∗ owe c O ∗ cred (tallyAt (barC c) () 2) ∗ atPos ER (barC c) 0 ∅ 0)
      (semWaitWord bar 2#32) iprop(owe c O ∗ semVal (barC c) 0 ∗ lend 0 (hop 0 c 3) ∗ lend 1 (hop 1 c 3)) := by
  unfold Tri
  simp only [semWaitWord, Prog.lift]
  unfold owe
  iintro ⟨#HR, #Hl, ⟨%W, HO⟩, Hc, Hat⟩
  icases (Recs_get I K (c, none)) $$ HR with ⟨#Hi, #Hr⟩
  iapply (Rounds.wp_wait_rest_token 𝒱₀ ER (Rd I) (c : Thread nD τ) none (κ := K (c, none)) (sm := .reg bar)
    (wpE_semWait_eq 𝒱₀ (c : Thread nD τ) none Set.univ) (Set.mem_univ _) () (O := O) (W := W) (R := 0) (m := 0) (T := ∅)
    (by rw [Nat.zero_add, expect_bar]; decide)) $$ [Hc HO Hat]
  · isplitr; · iexact Hi
    isplitl [Hc]; · iexact Hc
    isplitl [HO]; · iexact HO
    isplitr; · iapply (hO.mayWait c (.reg bar) le_rfl) $$ Hl
    iexact Hat
  iintro ⟨HO, Hat, -, Hp⟩
  ihave Hp := (Entails.of_eq (rest_bar I c)) $$ Hp
  icases Hp with ⟨H0, H1⟩
  imod (Rounds.cell_close ER (Rd I) (Set.mem_univ (K (c, none))) (fun h => h) (R := 0 + 1) (duties_later I (barC c))) $$ [Hat] with Hz
  · isplitr; · iexact Hi
    iexact Hat
  simp only [wp_ret]
  imodintro
  isplitl [HO]; · iexists _; iexact HO
  isplitl [Hz]; · iexact Hz
  isplitl [H0]; · iexact H0
  iexact H1

end Meeting

/-! ## Over all tiles -/

/-- For every row tile, both directions. -/
def every (X : Fin 4 → Fin 2 → SP F) : sProp 𝕄 := bigSep Finset.univ fun q => bigSep Finset.univ fun d => X q d

omit [FloatOps F] in
theorem every_sep (X Y : Fin 4 → Fin 2 → SP F) : every (fun q d => iprop(X q d ∗ Y q d)) = iprop(every X ∗ every Y) := by
  unfold every
  rw [← bigSep_sep']
  exact bigSep_congr fun q _ => bigSep_sep' _ _ _

omit [FloatOps F] in
theorem every_mono {X Y : Fin 4 → Fin 2 → SP F} (h : ∀ q d, X q d ⊢ Y q d) : every X ⊢ every Y := by
  unfold every
  exact bigSep_mono fun q _ => bigSep_mono fun d _ => h q d

omit [FloatOps F] in
/-- The two directions exchange what they hold of two arrays. -/
theorem every_swap (X Y : Fin 4 → Fin 2 → SP F) :
    iprop(every X ∗ every Y) ⊢ iprop(every (fun q d => if d = 0 then X q d else Y q d) ∗ every (fun q d => if d = 0 then Y q d else X q d)) := by
  rw [← every_sep, ← every_sep]
  refine every_mono fun q d => ?_
  by_cases h : d = 0
  · rw [if_pos h, if_pos h]
  · rw [if_neg h, if_neg h]
    iintro ⟨H₁, H₂⟩
    isplitl [H₂]; · iexact H₂
    iexact H₁

section Body
variable (I : Ins F) (K : Dev nD × KI → ℕ) {c : Dev nD}

theorem Tri.every {f : Fin 4 → Fin 2 → P (F := F) PUnit} (G : ℕ → SP F) {X Y : Fin 4 → Fin 2 → SP F}
    (h : ∀ q d, Tri c iprop(G (2 * q.val + d.val) ∗ X q d) (f q d) iprop(G (2 * q.val + d.val + 1) ∗ Y q d)) :
    Tri c iprop(G 0 ∗ Ring.every X) (Plain.loop2 f) iprop(G 8 ∗ Ring.every Y) := Tri.loop2 G X Y h

/-! ## The products -/

/-- The state while products are computed. -/
def Gw (n : ℕ) (c : Dev nD) : sProp 𝕄 := iprop(St I K c n ∗ Own xM c fullShare (I.x c) ∗ Own wV c fullShare (I.w c))

theorem gemmS {n : ℕ} (j q : Fin 4) :
    Tri c iprop(Gw I K n c ∗ bigSep Finset.univ fun d => Any (pT j q d) c) (gemm (xO j q) (hO j q 0) (hO j q 1))
      iprop(Gw I K n c ∗ bigSep Finset.univ fun d => Own (pT j q d) c fullShare (pt I c j q d)) := by
  have hg := (gemm_tri (c := c) (O := rem c n) (above_rem c (Nat.zero_le _)) (xO j q) (hO j q 0) (hO j q 1) fullShare (I.x c) (I.w c)).frame (R := Recs I K)
  have two : ∀ Φ : Fin 2 → SP F, bigSep Finset.univ Φ = iprop(Φ 0 ∗ Φ 1 ∗ emp) := fun Φ => by
    rw [sep_fin_succ, sep_fin_succ, Finset.univ_eq_empty, bigSep_empty]; rfl
  rw [two, two]
  unfold Gw St
  refine hg.conseq ?_ ?_
  · iintro ⟨⟨⟨HR, HG⟩, Hx, Hw⟩, H0, H1, -⟩
    isplitr [HR]
    · isplitl [HG Hx Hw]
      · isplitl [HG]; · iexact HG
        isplitl [Hx]; · iexact Hx
        iexact Hw
      isplitl [H0]; · iexact H0
      iexact H1
    iexact HR
  · iintro ⟨⟨⟨HG, Hx, Hw⟩, H0, H1⟩, HR⟩
    isplitl [HG Hx Hw HR]
    · isplitl [HG HR]
      · isplitl [HR]; · iexact HR
        iexact HG
      isplitl [Hx]; · iexact Hx
      iexact Hw
    isplitl [H0]; · iexact H0
    isplitl [H1]; · iexact H1
    iempintro

/-- The product of one chunk. -/
theorem chunk_tri {n : ℕ} (j : Fin 4) :
    Tri c iprop(Gw I K n c ∗ every fun q d => Any (pT j q d) c) (loop 4 fun q => gemm (xO j q) (hO j q 0) (hO j q 1))
      iprop(Gw I K n c ∗ every fun q d => Own (pT j q d) c fullShare (pt I c j q d)) :=
  Tri.loop (n := 4) (fun _ => Gw I K n c) _ _ fun q => gemmS I K j q

/-- The own chunk's product, each tile sent as it is made. -/
theorem first_tri (j : Fin 4) (hj : j = c) :
    Tri c iprop(Gw I K 0 c ∗ every fun q d => iprop(Any (pT j q d) c ∗ Tok c 0 q d ∗ Any (cT 0 q d) (hop d c 3)))
      (loop 4 fun q => do
        gemm (xO j q) (hO j q 0) (hO j q 1)
        loop 2 fun d => send0 (hop d c 3) (hO c q d) d q)
      iprop(Gw I K 8 c ∗ every fun q d => Gone c 0 q d) := by
  obtain rfl := hj.symm
  refine Tri.loop (n := 4) (fun i => Gw I K (2 * i) c) _ _ fun q => ?_
  have h2 := Tri.loop (c := c) (n := 2) (f := fun d => send0 (hop d c 3) (hO c q d) d q) (fun i => St I K c (2 * q.val + i))
    (fun d => iprop(Tok c 0 q d ∗ Own (pT c q d) c fullShare (pt I c c q d) ∗ Any (cT 0 q d) (hop d c 3))) (fun d => Gone c 0 q d)
    fun d => send0_tri I K q d _ rfl
  refine Tri.bind (((gemmS I K (n := 2 * q.val) c q).frame (R := bigSep Finset.univ fun d => iprop(Tok c 0 q d ∗ Any (cT 0 q d) (hop d c 3)))).conseq ?_ .rfl)
    ((h2.frame (R := iprop(Own xM c fullShare (I.x c) ∗ Own wV c fullShare (I.w c)))).conseq ?_ ?_)
  · rw [bigSep_sep']
    iintro ⟨HG, Ha, Hb⟩
    isplitr [Hb]
    · isplitl [HG]; · iexact HG
      iexact Ha
    iexact Hb
  · rw [bigSep_sep', bigSep_sep', bigSep_sep']
    unfold Gw
    iintro ⟨⟨⟨HS, Hx, Hw⟩, Hp⟩, Ht, Ha⟩
    isplitr [Hx Hw]
    · isplitl [HS]; · iexact HS
      isplitl [Ht]; · iexact Ht
      isplitl [Hp]; · iexact Hp
      iexact Ha
    isplitl [Hx]; · iexact Hx
    iexact Hw
  · unfold Gw
    iintro ⟨⟨HS, Hg⟩, Hx, Hw⟩
    isplitr [Hg]
    · isplitl [HS]; · iexact HS
      isplitl [Hx]; · iexact Hx
      iexact Hw
    iexact Hg

end Body

end Cert.KernelIdeal.Ring
-- ==== Proof.BodyRun.lean ====
/- The whole body of a device: from what it holds at the start to the result on every device. -/
module

public import proofs.«01_k».proof.Proof.Whole

@[expose] public section

noncomputable section

namespace Cert.KernelIdeal.Ring

open Cert.KernelIdeal.Gen Cert.KernelIdeal.Plain
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Small regroupings -/

omit [FloatOps F] in
theorem two (Φ : Fin 2 → SP F) : bigSep Finset.univ Φ = iprop(Φ 0 ∗ Φ 1 ∗ emp) := by
  rw [sep_fin_succ, sep_fin_succ, Finset.univ_eq_empty, bigSep_empty]; rfl
omit [FloatOps F] in
theorem three (Φ : Fin 3 → SP F) : bigSep Finset.univ Φ = iprop(Φ 0 ∗ Φ 1 ∗ Φ 2 ∗ emp) := by
  rw [sep_fin_succ, sep_fin_succ, sep_fin_succ, Finset.univ_eq_empty, bigSep_empty]; rfl
omit [FloatOps F] in
theorem four (Φ : Fin 4 → SP F) : bigSep Finset.univ Φ = iprop(Φ 0 ∗ Φ 1 ∗ Φ 2 ∗ Φ 3 ∗ emp) := by
  rw [sep_fin_succ, sep_fin_succ, sep_fin_succ, sep_fin_succ, Finset.univ_eq_empty, bigSep_empty]; rfl
omit [FloatOps F] in
theorem six (Φ : Fin 6 → SP F) : bigSep Finset.univ Φ = iprop(Φ 0 ∗ Φ 1 ∗ Φ 2 ∗ Φ 3 ∗ Φ 4 ∗ Φ 5 ∗ emp) := by
  rw [sep_fin_succ, sep_fin_succ, sep_fin_succ, sep_fin_succ, sep_fin_succ, sep_fin_succ, Finset.univ_eq_empty, bigSep_empty]; rfl

omit [FloatOps F] in
theorem every_two (X : Fin 4 → Fin 2 → SP F) :
    iprop((bigSep Finset.univ fun q => X q 0) ∗ bigSep Finset.univ fun q => X q 1) ⊢ every X := by
  unfold every
  rw [← bigSep_sep']
  refine bigSep_mono fun q _ => ?_
  rw [two]
  show iprop(X q 0 ∗ X q 1) ⊢ iprop(X q 0 ∗ X q 1 ∗ emp)
  iintro ⟨H₀, H₁⟩
  isplitl [H₀]; · iexact H₀
  isplitl [H₁]; · iexact H₁
  iempintro

omit [FloatOps F] in
/-- What the two neighbours lend, by step. -/
theorem lends (c : Dev nD) : iprop(lend 0 (hop 0 c 3) ∗ lend 1 (hop 1 c 3))
    ⊢ (iprop((every fun q d => Any (cT 0 q d) (hop d c 3)) ∗ (every fun q d => Any (cT 1 q d) (hop d c 3)) ∗ (every fun q d => Any (cT 2 q d) (hop d c 3))
      ∗ (every fun q d => Any (oT (hop d c 3) q d) (hop d c 3)) ∗ (every fun q d => Any (oT (hop d c 0) q d) (hop d c 3))
      ∗ (every fun q d => Any (oT (hop d c 1) q d) (hop d c 3))) : SP F) := by
  have e0 : ∀ d : Fin 2, hop d (hop d c 3) 0 = hop d c 3 := fun d => hop_zero d _
  have e1 : ∀ d : Fin 2, hop d (hop d c 3) 1 = hop d c 0 := fun d => by rw [hop_hop]; exact hop_four d c 0
  have e2 : ∀ d : Fin 2, hop d (hop d c 3) 2 = hop d c 1 := fun d => by rw [hop_hop]; exact hop_four d c 1
  unfold lend
  simp only [three]
  simp only [show ((0 : Fin 3).val) = 0 from rfl, show ((1 : Fin 3).val) = 1 from rfl, show ((2 : Fin 3).val) = 2 from rfl, e0, e1, e2]
  iintro ⟨⟨⟨A0, A1, A2, -⟩, B0, B1, B2, -⟩, ⟨A0', A1', A2', -⟩, B0', B1', B2', -⟩
  isplitl [A0 A0']
  · iapply (every_two fun q d => Any (cT 0 q d) (hop d c 3))
    isplitl [A0]; · iexact A0
    iexact A0'
  isplitl [A1 A1']
  · iapply (every_two fun q d => Any (cT 1 q d) (hop d c 3))
    isplitl [A1]; · iexact A1
    iexact A1'
  isplitl [A2 A2']
  · iapply (every_two fun q d => Any (cT 2 q d) (hop d c 3))
    isplitl [A2]; · iexact A2
    iexact A2'
  isplitl [B0 B0']
  · iapply (every_two fun q d => Any (oT (hop d c 3) q d) (hop d c 3))
    isplitl [B0]; · iexact B0
    iexact B0'
  isplitl [B1 B1']
  · iapply (every_two fun q d => Any (oT (hop d c 0) q d) (hop d c 3))
    isplitl [B1]; · iexact B1
    iexact B1'
  iapply (every_two fun q d => Any (oT (hop d c 1) q d) (hop d c 3))
  isplitl [B2]; · iexact B2
  iexact B2'

section Loops
variable (I : Ins F) (K : Dev nD × KI → ℕ) {c : Dev nD}

/-- The tile of the own product a step adds. -/
abbrev Ad (c : Dev nD) (k : ℕ) (q : Fin 4) (d : Fin 2) : SP F := Own (pT (hop d c k) q d) c fullShare (pt I c (hop d c k) q d)

/-- The products of the two neighbouring chunks, by direction. -/
theorem swapped (c : Dev nD) : iprop((every fun q d => Own (pT (hop 0 c (ord 1)) q d) c fullShare (pt I c (hop 0 c (ord 1)) q d))
      ∗ every fun q d => Own (pT (hop 0 c (ord 2)) q d) c fullShare (pt I c (hop 0 c (ord 2)) q d))
    ⊢ iprop(every (Ad I c 1) ∗ every (Ad I c 3)) := by
  have a1 : hop 0 c (ord 1) = hop 0 c 1 := rfl
  have a3 : hop 0 c (ord 2) = hop 0 c 3 := rfl
  have b1 : hop 1 c 1 = hop 0 c 3 := by revert c; decide
  have b3 : hop 1 c 3 = hop 0 c 1 := by revert c; decide
  have hd : ∀ d : Fin 2, d ≠ 0 → d = 1 := by decide
  refine (every_swap _ _).trans (BIClass.sep_mono (every_mono fun q d => ?_) (every_mono fun q d => ?_))
  · by_cases h : d = 0
    · subst h; rw [if_pos rfl, a1]
    · rw [if_neg h, hd d h, a3]; unfold Ad; rw [b1]
  · by_cases h : d = 0
    · subst h; rw [if_pos rfl, a3]
    · rw [if_neg h, hd d h, a1]; unfold Ad; rw [b3]

theorem third (c : Dev nD) (q : Fin 4) (d : Fin 2) : Own (pT (hop 0 c (ord 3)) q d) c fullShare (pt I c (hop 0 c (ord 3)) q d) = Ad I c 2 q d := by
  have a : ∀ (c : Dev nD) (d : Fin 2), hop 0 c (ord 3) = hop d c 2 := by decide +kernel
  rw [a c d]

theorem ring0_tri (os o : Fin 4 → Fin 2 → HOff) (hs : os = fun q d => hO c q d) (ho : o = fun q d => hO (hop d c 1) q d) :
    Tri c iprop(St I K c 8 ∗ (every fun q d => Pos c (1, 0, q, d)) ∗ every (Tok c 1) ∗ every (Ad I c 1) ∗ every fun q d => Any (cT 1 q d) (hop d c 3))
      (loop2 fun q d => step0 (hop d c 3) (os q d) (o q d) q d)
      iprop(St I K c 16 ∗ (every fun q d => Zero c (1, 0, q, d)) ∗ every (Gone c 1)) := by
  subst hs ho
  have h := Tri.every (fun i => St I K c (8 + i)) fun q d => step0_tri I K (c := c) q d _ rfl
  rw [every_sep, every_sep, every_sep, every_sep] at h
  exact h

theorem ring1_tri (o : Fin 4 → Fin 2 → HOff) (ho : o = fun q d => hO (hop d c 2) q d) :
    Tri c iprop(St I K c 16 ∗ (every fun q d => Pos c (1, 1, q, d)) ∗ every (Tok c 2) ∗ every (Ad I c 2) ∗ every fun q d => Any (cT 2 q d) (hop d c 3))
      (loop2 fun q d => step1 (hop d c 3) (o q d) q d)
      iprop(St I K c 24 ∗ (every fun q d => Zero c (1, 1, q, d)) ∗ every (Gone c 2)) := by
  subst ho
  have h := Tri.every (fun i => St I K c (16 + i)) fun q d => step1_tri I K (c := c) q d _ rfl
  rw [every_sep, every_sep, every_sep, every_sep] at h
  exact h

/-- A tile of the result, held for reading. -/
abbrev Res (c : Dev nD) (t : ℕ) (q : Fin 4) (d : Fin 2) : SP F := Own (oT (hop d c t) q d) c (PosShare.right fullShare) (ov I (hop d c t) q d)

theorem ring2_tri (o o' : Fin 4 → Fin 2 → HOff) (ho : o = fun q d => hO (hop d c 3) q d) (ho' : o' = fun q d => hO (hop d c 3) q d) :
    Tri c iprop((St I K c 24 ∗ Sc I c) ∗ (every fun q d => Pos c (1, 2, q, d)) ∗ every (Tok c 3) ∗ every (Ad I c 3)
        ∗ (every fun q d => Any (oT (hop d c 3) q d) c) ∗ every fun q d => Any (oT (hop d c 3) q d) (hop d c 3))
      (loop2 fun q d => step2 (hop d c 3) (o q d) (o' q d) q d)
      iprop((St I K c 32 ∗ Sc I c) ∗ (every fun q d => Zero c (1, 2, q, d)) ∗ every (Gone c 3) ∗ every (Res I c 3)) := by
  subst ho ho'
  have h := Tri.every (fun i => iprop(St I K c (24 + i) ∗ Sc I c)) fun q d => step2_tri I K (c := c) q d _ rfl
  rw [every_sep, every_sep, every_sep, every_sep, every_sep, every_sep] at h
  exact h

theorem gather_tri (o o' : Fin 2 → Fin 4 → Fin 2 → HOff) (ho : o = fun t q d => hO (hop d c (t.val + 3)) q d)
    (ho' : o' = fun t q d => hO (hop d c (t.val + 1 + 3)) q d) :
    Tri c iprop(St I K c 32 ∗ ((every fun q d => Pos c (1, 3, q, d)) ∗ every (Tok c 4) ∗ every fun q d => Any (oT (hop d c 0) q d) (hop d c 3))
        ∗ (every fun q d => Pos c (1, 4, q, d)) ∗ every (Tok c 5) ∗ every fun q d => Any (oT (hop d c 1) q d) (hop d c 3))
      (loop 2 fun t => loop2 fun q d => stepG (hop d c 3) t (o t q d) (o' t q d) q d)
      iprop(St I K c 48 ∗ ((every fun q d => Zero c (1, 3, q, d)) ∗ every (Gone c 4) ∗ every (Res I c 0))
        ∗ (every fun q d => Zero c (1, 4, q, d)) ∗ every (Gone c 5) ∗ every (Res I c 1)) := by
  subst ho ho'
  have ht : ∀ t : Fin 2, _ := fun t => by
    have h := Tri.every (fun i => St I K c (32 + 8 * t.val + i)) fun q d => stepG_tri I K (c := c) t q d _ rfl
    rw [every_sep, every_sep, every_sep, every_sep] at h
    exact h
  have h := Tri.loop (n := 2) (fun i => St I K c (32 + 8 * i)) _ _ ht
  rw [two, two] at h
  refine h.conseq ?_ ?_
  · iintro ⟨HS, H₀, H₁⟩
    isplitl [HS]; · iexact HS
    isplitl [H₀]; · iexact H₀
    isplitl [H₁]; · iexact H₁
    iempintro
  · iintro ⟨HS, H₀, H₁, -⟩
    isplitl [HS]; · iexact HS
    isplitl [H₀]; · iexact H₀
    iexact H₁

theorem last_tri (o : Fin 4 → Fin 2 → HOff) :
    Tri c iprop(St I K c 48 ∗ every fun q d => Pos c (1, 5, q, d)) (loop2 fun q d => stepL (o q d) q d)
      iprop(St I K c 48 ∗ (every fun q d => Zero c (1, 5, q, d)) ∗ every (Res I c 2)) := by
  have h := Tri.every (fun _ => St I K c 48) fun q d => stepL_tri I K (c := c) q d (o q d)
  rw [every_sep] at h
  exact h

theorem ends0_tri (o : Fin 4 → Fin 2 → HOff) :
    Tri c iprop(St I K c 48 ∗ every fun q d => Pos c (0, 0, q, d)) (loop2 fun q d => endRS0 (o q d) q d)
      iprop(St I K c 48 ∗ every fun q d => Zero c (0, 0, q, d)) :=
  Tri.every (fun _ => St I K c 48) fun q d => endRS0_tri I K (c := c) q d (o q d)

theorem ends1_tri :
    Tri c iprop(St I K c 48 ∗ (every fun q d => Pos c (0, 1, q, d)) ∗ every fun q d => Pos c (0, 2, q, d)) (loop 2 fun s => loop2 fun q d => endRS s q d)
      iprop(St I K c 48 ∗ (every fun q d => Zero c (0, 1, q, d)) ∗ every fun q d => Zero c (0, 2, q, d)) := by
  have h := Tri.loop (n := 2) (fun _ => St I K c 48) _ _ fun t => Tri.every (fun _ => St I K c 48) fun q d => endRS_tri I K (c := c) t q d
  rw [two, two] at h
  refine h.conseq ?_ ?_
  · iintro ⟨HS, H₀, H₁⟩
    isplitl [HS]; · iexact HS
    isplitl [H₀]; · iexact H₀
    isplitl [H₁]; · iexact H₁
    iempintro
  · iintro ⟨HS, H₀, H₁, -⟩
    isplitl [HS]; · iexact HS
    isplitl [H₀]; · iexact H₀
    iexact H₁

theorem ends2_tri (o : Fin 3 → Fin 4 → Fin 2 → HOff) :
    Tri c iprop(St I K c 48 ∗ (every fun q d => Pos c (0, 3, q, d)) ∗ (every fun q d => Pos c (0, 4, q, d)) ∗ every fun q d => Pos c (0, 5, q, d))
      (loop 3 fun t => loop2 fun q d => endAG (o t q d) t q d)
      iprop(St I K c 48 ∗ (every fun q d => Zero c (0, 3, q, d)) ∗ (every fun q d => Zero c (0, 4, q, d)) ∗ every fun q d => Zero c (0, 5, q, d)) := by
  have h := Tri.loop (n := 3) (fun _ => St I K c 48) _ _ fun t => Tri.every (fun _ => St I K c 48) fun q d => endAG_tri I K (c := c) t q d (o t q d)
  rw [three, three] at h
  refine h.conseq ?_ ?_
  · iintro ⟨HS, H₀, H₁, H₂⟩
    isplitl [HS]; · iexact HS
    isplitl [H₀]; · iexact H₀
    isplitl [H₁]; · iexact H₁
    isplitl [H₂]; · iexact H₂
    iempintro
  · iintro ⟨HS, H₀, H₁, H₂, -⟩
    isplitl [HS]; · iexact HS
    isplitl [H₀]; · iexact H₀
    isplitl [H₁]; · iexact H₁
    iexact H₂

theorem wcopy_tri {O : CellTallies nD τ sig Unit} (hO : Above 0 O) (W : S1024x8192.Idx → Elt F .i8) :
    Tri c iprop(Gear c O ∗ Own wM c fullShare W ∗ Any wV c) (cpHV 0 wM wV wM_word wV_word) iprop(Gear c O ∗ Own wM c fullShare W ∗ Own wV c fullShare W) := by
  unfold Gear
  refine ((cpHV_tri (c := c) 0 wM wV wM_word wV_word (by decide +kernel) hO fullShare W).frame
    (R := iprop(levAts L lv ∗ semVal ((c : Thread nD τ), .dma (locS 1)) 0 ∗ Any xV c ∗ Any gV c ∗ Any aV c ∗ Any bV c))).conseq ?_ ?_
  · iintro ⟨⟨#Hl, HO, Hv0, Hr⟩, Hw, Hd⟩
    isplitr [Hr]
    · isplitr; · iexact Hl
      isplitl [Hw]; · iexact Hw
      isplitl [Hd]; · iexact Hd
      isplitl [Hv0]; · iexact Hv0
      iexact HO
    isplitr; · iexact Hl
    iexact Hr
  · iintro ⟨⟨Hw, Hd, Hv0, HO⟩, #Hl, Hr⟩
    isplitr [Hw Hd]
    · isplitr; · iexact Hl
      isplitl [HO]; · iexact HO
      isplitl [Hv0]; · iexact Hv0
      iexact Hr
    isplitl [Hw]; · iexact Hw
    iexact Hd

end Loops

/-! ## The body -/

section Run
variable (I : Ins F) (K : Dev nD × KI → ℕ) {c : Dev nD}

/-- The tokens of the meeting. -/
def Meet (c : Dev nD) : sProp 𝕄 :=
  iprop(dutyTok ER (barC (hop 0 c 3)) 0 (1 : Fin 2) ∗ dutyTok ER (barC (hop 1 c 3)) 0 (0 : Fin 2) ∗ cred (tallyAt (barC c) () 2) ∗ atPos ER (barC c) 0 ∅ 0)
/-- A departure's place. -/
def At (c : Dev nD) (i : CI) : sProp 𝕄 := atPos ER (cellC c i) 0 ∅ 0
/-- The memory a device starts with. -/
def Mem (I : Ins F) (c : Dev nD) : sProp 𝕄 :=
  iprop((lend 0 c ∗ lend 1 c) ∗ (Own xM c fullShare (I.x c) ∗ Own wM c fullShare (I.w c) ∗ Any wV c ∗ Sc I c)
    ∗ (bigSep Finset.univ fun i : Fin 4 => every fun q d => Any (pT (hop 0 c (ord i)) q d) c) ∗ every fun q d => Any (oT (hop d c 3) q d) c)
/-- The tokens of its transfers. -/
def Toks (c : Dev nD) : sProp 𝕄 :=
  iprop((bigSep Finset.univ fun k : Fin 6 => every fun q d => Pos c (1, k, q, d)) ∗ (bigSep Finset.univ fun k : Fin 6 => every fun q d => At c (0, k, q, d))
    ∗ bigSep Finset.univ fun k : Fin 6 => every (Tok c k))

/-- What a device ends with: its operands, the whole result, its semaphores at zero. -/
def Done (I : Ins F) (c : Dev nD) : sProp 𝕄 :=
  iprop((Gear c 0 ∗ semVal (barC c) 0) ∗ (Own xM c fullShare (I.x c) ∗ Own wM c fullShare (I.w c) ∗ Any wV c ∗ Sc I c)
    ∗ (bigSep Finset.univ fun t : Fin 4 => every (Res I c t.val))
    ∗ (bigSep Finset.univ fun k : Fin 6 => every fun q d => Zero c (1, k, q, d)) ∗ bigSep Finset.univ fun k : Fin 6 => every fun q d => Zero c (0, k, q, d))

theorem pos_of (c : Dev nD) (k : Fin 6) : iprop((every (Gone c k) : SP F) ∗ every fun q d => At c (0, k, q, d)) ⊢ every fun q d => Pos c (0, k, q, d) := by
  rw [← every_sep]
  refine every_mono fun q d => ?_
  unfold Gone At Pos
  exact .rfl

theorem body_tri : Tri c iprop(Recs I K ∗ Gear c (owed₀ c) ∗ Meet c ∗ Mem I c ∗ Toks c) (Plain.body (places c) fun d => hop d c 3) (Done I c) := by
  unfold Tri Meet Mem Toks
  rw [four, six, six, six]
  simp only [Plain.body, places]
  iintro ⟨#HR, HG, ⟨Ht0, Ht1, Hcb, Hab⟩, ⟨⟨L0, L1⟩, ⟨Hx, Hw, HwV, Hsc⟩, ⟨P0, P1, P2, P3, -⟩, Ho⟩, ⟨R0, R1, R2, R3, R4, R5, -⟩, ⟨A0, A1, A2, A3, A4, A5, -⟩, T0, T1, T2, T3, T4, T5, -⟩
  icases (Gear.open (rem c 0)) $$ HG with ⟨#Hl, HO, HG⟩
  unfold owed₀
  iapply (signal_tri I K 0 (rem c 0 + tallyAt (barC (hop 1 c 3)) () 1) (hop 0 c 3) rfl).useBind
  isplitl [HO Ht0 L1]
  · isplitr; · iexact HR
    isplitl [HO]; · iexact HO
    isplitl [Ht0]; · iexact Ht0
    iexact L1
  iintro HO
  iapply (signal_tri I K 1 (rem c 0) (hop 1 c 3) rfl).useBind
  isplitl [HO Ht1 L0]
  · isplitr; · iexact HR
    isplitl [HO]; · iexact HO
    isplitl [Ht1]; · iexact Ht1
    iexact L0
  iintro HO
  iapply (meet_tri I K (above_rem c (n := 0) (by omega))).useBind
  isplitl [HO Hcb Hab]
  · isplitr; · iexact HR
    isplitr; · iexact Hl
    isplitl [HO]; · iexact HO
    isplitl [Hcb]; · iexact Hcb
    iexact Hab
  iintro ⟨HO, Hzb, N0, N1⟩
  ihave HG := HG $$ HO
  icases (lends c) $$ [N0 N1] with ⟨C0, C1, C2, O3, O0, O1⟩
  · isplitl [N0]; · iexact N0
    iexact N1
  iapply (wcopy_tri (above_rem c (n := 0) (by omega)) (I.w c)).useBind
  isplitl [HG Hw HwV]
  · isplitl [HG]; · iexact HG
    isplitl [Hw]; · iexact Hw
    iexact HwV
  iintro ⟨HG, Hw, HwV⟩
  iapply (first_tri I K (hop 0 c (ord 0)) (hop_zero 0 c)).useBind
  isplitl [HG Hx HwV P0 T0 C0]
  · isplitl [HG Hx HwV]
    · unfold Gw St
      isplitl [HG]
      · isplitr; · iexact HR
        iexact HG
      isplitl [Hx]; · iexact Hx
      iexact HwV
    rw [every_sep, every_sep]
    isplitl [P0]; · iexact P0
    isplitl [T0]; · iexact T0
    iexact C0
  iintro ⟨HG, G0⟩
  iapply (chunk_tri I K (hop 0 c (ord 1))).useBind
  isplitl [HG P1]
  · isplitl [HG]; · iexact HG
    iexact P1
  iintro ⟨HG, P1⟩
  iapply (chunk_tri I K (hop 0 c (ord 2))).useBind
  isplitl [HG P2]
  · isplitl [HG]; · iexact HG
    iexact P2
  iintro ⟨HG, P2⟩
  icases (swapped I c) $$ [P1 P2] with ⟨P1, P2⟩
  · isplitl [P1]; · iexact P1
    iexact P2
  unfold Gw
  icases HG with ⟨HG, Hx, HwV⟩
  iapply (ring0_tri I K _ _ rfl rfl).useBind
  isplitl [HG R0 T1 P1 C1]
  · isplitl [HG]; · iexact HG
    isplitl [R0]; · iexact R0
    isplitl [T1]; · iexact T1
    isplitl [P1]; · iexact P1
    iexact C1
  iintro ⟨HG, R0, G1⟩
  iapply (chunk_tri I K (n := 16) (hop 0 c (ord 3))).useBind
  isplitl [HG Hx HwV P3]
  · isplitr [P3]
    · unfold Gw
      isplitl [HG]; · iexact HG
      isplitl [Hx]; · iexact Hx
      iexact HwV
    iexact P3
  unfold Gw
  iintro ⟨⟨HG, Hx, HwV⟩, P3⟩
  iapply (ring1_tri I K _ rfl).useBind
  isplitl [HG R1 T2 P3 C2]
  · isplitl [HG]; · iexact HG
    isplitl [R1]; · iexact R1
    isplitl [T2]; · iexact T2
    isplitl [P3]
    · iapply (every_mono (fun q d => Entails.of_eq (third I c q d))) $$ P3
    iexact C2
  iintro ⟨HG, R1, G2⟩
  iapply (ring2_tri I K _ _ rfl rfl).useBind
  isplitl [HG Hsc R2 T3 P2 Ho O3]
  · isplitl [HG Hsc]
    · isplitl [HG]; · iexact HG
      iexact Hsc
    isplitl [R2]; · iexact R2
    isplitl [T3]; · iexact T3
    isplitl [P2]; · iexact P2
    isplitl [Ho]; · iexact Ho
    iexact O3
  iintro ⟨⟨HG, Hsc⟩, R2, G3, E3⟩
  iapply (gather_tri I K _ _ rfl rfl).useBind
  isplitl [HG R3 T4 O0 R4 T5 O1]
  · isplitl [HG]; · iexact HG
    isplitl [R3 T4 O0]
    · isplitl [R3]; · iexact R3
      isplitl [T4]; · iexact T4
      iexact O0
    isplitl [R4]; · iexact R4
    isplitl [T5]; · iexact T5
    iexact O1
  iintro ⟨HG, ⟨R3, G4, E0⟩, R4, G5, E1⟩
  iapply (last_tri I K _).useBind
  isplitl [HG R5]
  · isplitl [HG]; · iexact HG
    iexact R5
  iintro ⟨HG, R5, E2⟩
  iapply (ends0_tri I K _).useBind
  isplitl [HG G0 A0]
  · isplitl [HG]; · iexact HG
    iapply (pos_of c 0)
    isplitl [G0]; · iexact G0
    iexact A0
  iintro ⟨HG, A0⟩
  iapply (ends1_tri I K).useBind
  isplitl [HG G1 A1 G2 A2]
  · isplitl [HG]; · iexact HG
    isplitl [G1 A1]
    · iapply (pos_of c 1)
      isplitl [G1]; · iexact G1
      iexact A1
    iapply (pos_of c 2)
    isplitl [G2]; · iexact G2
    iexact A2
  iintro ⟨HG, A1, A2⟩
  iapply (ends2_tri I K _).use
  isplitl [HG G3 A3 G4 A4 G5 A5]
  · isplitl [HG]; · iexact HG
    isplitl [G3 A3]
    · iapply (pos_of c 3)
      isplitl [G3]; · iexact G3
      iexact A3
    isplitl [G4 A4]
    · iapply (pos_of c 4)
      isplitl [G4]; · iexact G4
      iexact A4
    iapply (pos_of c 5)
    isplitl [G5]; · iexact G5
    iexact A5
  iintro ⟨HG, A3, A4, A5⟩
  unfold Done St
  rw [four, six, six, rem_end]
  icases HG with ⟨-, HG⟩
  ihave HwV := Own.any $$ HwV
  isplitl [HG Hzb]
  · isplitl [HG]; · iexact HG
    iexact Hzb
  isplitl [Hx Hw HwV Hsc]
  · isplitl [Hx]; · iexact Hx
    isplitl [Hw]; · iexact Hw
    isplitl [HwV]; · iexact HwV
    iexact Hsc
  isplitl [E0 E1 E2 E3]
  · isplitl [E0]; · iexact E0
    isplitl [E1]; · iexact E1
    isplitl [E2]; · iexact E2
    isplitl [E3]; · iexact E3
    iempintro
  isplitl [R0 R1 R2 R3 R4 R5]
  · isplitl [R0]; · iexact R0
    isplitl [R1]; · iexact R1
    isplitl [R2]; · iexact R2
    isplitl [R3]; · iexact R3
    isplitl [R4]; · iexact R4
    isplitl [R5]; · iexact R5
    iempintro
  isplitl [A0]; · iexact A0
  isplitl [A1]; · iexact A1
  isplitl [A2]; · iexact A2
  isplitl [A3]; · iexact A3
  isplitl [A4]; · iexact A4
  isplitl [A5]; · iexact A5
  iempintro

end Run

end Cert.KernelIdeal.Ring
-- ==== Proof.Deal.lean ====
/- What the launch deals: credits, tokens and memory, from how they are made to how the devices use them. -/
module

public import proofs.«01_k».proof.Proof.BodyRun

@[expose] public section

noncomputable section

namespace Cert.KernelIdeal.Ring

open Cert.KernelIdeal.Gen Cert.KernelIdeal.Plain
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over a device's transfers -/

section Shuffle
omit [FloatOps F]

theorem trip {n : ℕ} (Φ : Fin n × Fin 4 × Fin 2 → SP F) :
    bigSep Finset.univ Φ = bigSep Finset.univ fun k => every fun q d => Φ (k, q, d) := by
  rw [bigSep_univ_prod]
  refine bigSep_congr fun k _ => ?_
  rw [bigSep_univ_prod]; rfl

theorem ci_split (Φ : CI → SP F) : bigSep Finset.univ Φ
    = iprop((bigSep Finset.univ fun k => every fun q d => Φ (0, k, q, d)) ∗ bigSep Finset.univ fun k => every fun q d => Φ (1, k, q, d)) := by
  rw [bigSep_univ_prod, two, trip, trip]
  exact BI.Entails.antisymm (sep_mono_right (sep_emp (PROP := sProp 𝕄)).1) (sep_mono_right (sep_emp (PROP := sProp 𝕄)).2)

theorem opt_split (Φ : KI → SP F) : bigSep Finset.univ Φ = iprop(Φ none ∗ bigSep Finset.univ fun i : CI => Φ (some i)) := by
  rw [bigSep_univ_equiv (Equiv.optionEquivSumPUnit.{0} CI).symm, BI.bigSep_univ_sum, Finset.univ_unique (α := PUnit), bigSep_singleton]
  exact BI.Entails.antisymm (sep_comm (PROP := sProp 𝕄)).1 (sep_comm (PROP := sProp 𝕄)).1

/-- A family over all tiles, its first index moved by a one-to-one map that depends on the direction. -/
theorem move {A : Type} [Fintype A] (f : Fin 2 → A → A) (hf : ∀ d, Function.Injective (f d)) (Y : A → Fin 4 → Fin 2 → SP F) :
    (bigSep Finset.univ fun a => every (Y a)) = bigSep Finset.univ fun a => every fun q d => Y (f d a) q d := by
  have hb : Function.Bijective fun x : A × Fin 4 × Fin 2 => (f x.2.2 x.1, x.2) := Finite.injective_iff_bijective.mp fun x y h => by
    obtain ⟨a, q, d⟩ := x; obtain ⟨a', q', d'⟩ := y
    obtain ⟨h1, h2⟩ := Prod.mk.inj h
    obtain ⟨rfl, rfl⟩ := Prod.mk.inj h2
    have e : a = a' := hf d h1
    rw [e]
  have ht (Φ : A × Fin 4 × Fin 2 → SP F) : bigSep Finset.univ Φ = bigSep Finset.univ fun k => every fun q d => Φ (k, q, d) := by
    rw [bigSep_univ_prod]
    refine bigSep_congr fun k _ => ?_
    rw [bigSep_univ_prod]; rfl
  rw [← ht fun x : A × Fin 4 × Fin 2 => Y x.1 x.2.1 x.2.2, bigSep_univ_equiv (Equiv.ofBijective _ hb), ht]; rfl

theorem hop_inj (d : Fin 2) (k : ℕ) : Function.Injective fun c : Fin 4 => hop d c k := fun a b h => by
  have : (a.val + k * (![3, 1] : Fin 2 → ℕ) d) % 4 = (b.val + k * (![3, 1] : Fin 2 → ℕ) d) % 4 := congrArg Fin.val h
  have := a.isLt; have := b.isLt
  exact Fin.ext (by omega)
theorem hop_inj' (c : Dev nD) (d : Fin 2) : Function.Injective fun t : Fin 4 => hop d c t.val := by revert c d; decide +kernel
theorem ord_inj (c : Dev nD) : Function.Injective fun i : Fin 4 => hop 0 c (ord i) := by revert c; decide +kernel

/-- The arrivals' tokens, dealt to the devices that send. -/
theorem arrivals (Y : Dev nD → Fin 6 → Fin 4 → Fin 2 → SP F) :
    (bigSep Finset.univ fun c => bigSep Finset.univ fun k => every (Y c k))
      = bigSep Finset.univ fun c => bigSep Finset.univ fun k => every fun q d => Y (hop d c 3) k q d := by
  rw [← bigSep_univ_prod fun x : Dev nD × Fin 6 => every (Y x.1 x.2), ← bigSep_univ_prod fun x : Dev nD × Fin 6 => every fun q d => Y (hop d x.1 3) x.2 q d]
  exact move (A := Dev nD × Fin 6) (fun d x => (hop d x.1 3, x.2)) (fun d x y h => by
    obtain ⟨h1, h2⟩ := Prod.mk.inj h
    exact Prod.ext (hop_inj d 3 h1) h2) fun x => Y x.1 x.2

/-- A device's signals' tokens, likewise. -/
theorem signals (e : Fin 2) (Y : Dev nD → SP F) : bigSep Finset.univ Y = bigSep Finset.univ fun c => Y (hop e c 3) :=
  bigSep_univ_equiv (Equiv.ofBijective (fun c : Dev nD => hop e c 3) (Finite.injective_iff_bijective.mp (hop_inj e 3))) Y

theorem halves (X : Fin 4 → Fin 2 → SP F) : every X ⊢ iprop((bigSep Finset.univ fun q => X q 0) ∗ bigSep Finset.univ fun q => X q 1) := by
  unfold every
  rw [← bigSep_sep']
  refine bigSep_mono fun q _ => ?_
  rw [two]
  exact sep_mono_right (sep_emp (PROP := sProp 𝕄)).1

theorem halves_all {n : ℕ} (X : Fin n → Fin 4 → Fin 2 → SP F) : (bigSep Finset.univ fun k => every (X k))
    ⊢ iprop((bigSep Finset.univ fun k => bigSep Finset.univ fun q => X k q 0) ∗ bigSep Finset.univ fun k => bigSep Finset.univ fun q => X k q 1) := by
  rw [← bigSep_sep']
  exact bigSep_mono fun k _ => halves (X k)

theorem last_of_four (Φ : Fin 4 → SP F) : bigSep Finset.univ Φ ⊢ iprop((bigSep Finset.univ fun t : Fin 3 => Φ t.castSucc) ∗ Φ 3) := by
  rw [four, three]
  show iprop(Φ 0 ∗ Φ 1 ∗ Φ 2 ∗ Φ 3 ∗ emp) ⊢ iprop((Φ 0 ∗ Φ 1 ∗ Φ 2 ∗ emp) ∗ Φ 3)
  iintro ⟨H0, H1, H2, H3, -⟩
  isplitr [H3]
  · isplitl [H0]; · iexact H0
    isplitl [H1]; · iexact H1
    isplitl [H2]; · iexact H2
    iempintro
  · iexact H3

end Shuffle

/-! ## The memory of the run -/

/-- A device's arrays in tiles: what it lends, what it keeps of its product, and its own part of the result. -/
theorem arrays (c : Dev nD) : iprop(Any outM c ∗ Any comM c ∗ Any parM c)
    ⊢ (iprop((lend 0 c ∗ lend 1 c) ∗ (bigSep Finset.univ fun i : Fin 4 => every fun q d => Any (pT (hop 0 c (ord i)) q d) c)
      ∗ every fun q d => Any (oT (hop d c 3) q d) c) : SP F) := by
  have ho : (Any outM c : SP F) ⊢ iprop((bigSep Finset.univ fun t : Fin 3 => every fun q d => Any (oT (hop d c t.val) q d) c)
      ∗ every fun q d => Any (oT (hop d c 3) q d) c) :=
    (any_tiles outM c).trans ((Entails.of_eq (move (fun d (t : Fin 4) => hop d c t.val) (hop_inj' c) fun j q d => Any (oT j q d) c)).trans
      (last_of_four fun t => every fun q d => Any (oT (hop d c t.val) q d) c))
  have hp : (Any parM c : SP F) ⊢ bigSep Finset.univ fun i : Fin 4 => every fun q d => Any (pT (hop 0 c (ord i)) q d) c :=
    (any_tiles parM c).trans (Entails.of_eq (move (fun d (i : Fin 4) => hop 0 c (ord i)) (fun d => ord_inj c) fun j q d => Any (pT j q d) c))
  have hc : (Any comM c : SP F) ⊢ iprop((bigSep Finset.univ fun k : Fin 3 => bigSep Finset.univ fun q => Any (cT k q 0) c)
      ∗ bigSep Finset.univ fun k : Fin 3 => bigSep Finset.univ fun q => Any (cT k q 1) c) :=
    (any_land c).trans (halves_all fun k q d => Any (cT k q d) c)
  iintro ⟨Ho, Hc, Hp⟩
  icases ho $$ Ho with ⟨Ho, Ho3⟩
  icases (halves_all fun (t : Fin 3) q d => Any (oT (hop d c t.val) q d) c) $$ Ho with ⟨Ho0, Ho1⟩
  icases hc $$ Hc with ⟨Hc0, Hc1⟩
  isplitl [Ho0 Ho1 Hc0 Hc1]
  · unfold lend
    isplitl [Ho0 Hc0]
    · isplitl [Hc0]; · iexact Hc0
      iexact Ho0
    · isplitl [Hc1]; · iexact Hc1
      iexact Ho1
  isplitl [Hp]
  · iapply hp; iexact Hp
  · iexact Ho3

theorem own_whole (b : Ref sig .tc) (c : Dev nD) (f : Buf (Elt F) ((c : Thread nD τ).loc b)) :
    (((c : Thread nD τ).loc b) ↦{fullShare} f : SP F) ⊢ Own (Memref.whole b) c fullShare f := by
  unfold Own; simp only [Memref.view_whole, View.read_whole, View.set_whole]
  iintro H
  iexists f; isplitr
  · ipureintro; rfl
  · iexact H
theorem whole_own (b : Ref sig .tc) (c : Dev nD) (f : Buf (Elt F) ((c : Thread nD τ).loc b)) :
    Own (Memref.whole b) c fullShare f ⊢ (((c : Thread nD τ).loc b) ↦{fullShare} f : SP F) := by
  unfold Own; simp only [Memref.view_whole, View.read_whole, View.set_whole]
  iintro ⟨%g, %hg, H⟩
  subst hg
  iexact H
theorem any_whole (b : Ref sig .tc) (c : Dev nD) :
    (iprop(∃ f : Buf (Elt F) ((c : Thread nD τ).loc b), ((c : Thread nD τ).loc b) ↦{fullShare} f) : SP F) ⊢ Any (Memref.whole b) c := by
  unfold Any; simp only [Memref.view_whole, View.set_whole]
  exact .rfl
theorem whole_any (b : Ref sig .tc) (c : Dev nD) :
    (Any (Memref.whole b) c : SP F) ⊢ iprop(∃ f : Buf (Elt F) ((c : Thread nD τ).loc b), ((c : Thread nD τ).loc b) ↦{fullShare} f) := by
  unfold Any; simp only [Memref.view_whole, View.set_whole]
  exact .rfl

/-! ## The credit at the start -/

section Credit
omit [FloatOps F]

theorem cell_ne_bar (c c' : Dev nD) (i : CI) : cellC c i ≠ barC c' := fun h => by cases (congrArg Prod.snd h : SemLoc.dma _ = SemLoc.reg _)
theorem bar_inj {c c' : Dev nD} (h : barC c = barC c') : c = c' := Fin.ext (congrArg (fun g : GSem nD τ sig => g.1.1.val) h)
theorem cell_inj {c c' : Dev nD} {i i' : CI} (h : cellC c i = cellC c' i') : c = c' ∧ i = i' := by
  refine ⟨Fin.ext (congrArg (fun g : GSem nD τ sig => g.1.1.val) h), cnum_inj ?_⟩
  have h2 : SemLoc.dma (csem i) = SemLoc.dma (csem i') := congrArg Prod.snd h
  have h3 : csem i = csem i' := SemLoc.dma.inj h2
  exact congrArg Fin.val h3
theorem hop_from {d : Fin 2} {a c : Dev nD} : c = hop d a 3 ↔ a = hop d c 1 := by revert d a c; decide +kernel

theorem rem_bar (a c : Dev nD) : rem a 0 (barC c) () = 0 := by
  unfold rem
  rw [Finset.sum_apply, Finsupp.finset_sum_apply]
  refine Finset.sum_eq_zero fun i _ => ?_
  unfold dest
  rw [tallyAt_ne_cell fun h => cell_ne_bar _ _ _ h.symm]; rfl

theorem nth_at {n : ℕ} (hn : n < 48) {k : Fin 6} {q : Fin 4} {d : Fin 2} (h : nth n = (1, k, q, d)) : n = 8 * k.val + (2 * q.val + d.val) := by
  have h1 : n / 8 % 6 = k.val := congrArg (fun i : CI => i.2.1.val) h
  have h2 : n / 2 % 4 = q.val := congrArg (fun i : CI => i.2.2.1.val) h
  have h3 : n % 2 = d.val := congrArg (fun i : CI => i.2.2.2.val) h
  omega

theorem rem_cell (a c : Dev nD) (k : Fin 6) (q : Fin 4) (d : Fin 2) : rem a 0 (cellC c (1, k, q, d)) () = if a = hop d c 1 then N else 0 := by
  have hlt : 8 * k.val + (2 * q.val + d.val) < 48 := by have := k.isLt; have := q.isLt; have := d.isLt; omega
  unfold rem
  rw [Finset.sum_apply, Finsupp.finset_sum_apply, Finset.sum_eq_single (8 * k.val + (2 * q.val + d.val))]
  · unfold dest
    rw [tallyAt_apply, nth_eq]
    by_cases h : a = hop d c 1
    · rw [if_pos h, if_pos ⟨by rw [← hop_from.mpr h], rfl⟩]
    · rw [if_neg h, if_neg fun h' => h (hop_from.mp (cell_inj h'.1).1)]
  · intro n hn hne
    rw [tallyAt_apply, if_neg]
    rintro ⟨h, -⟩
    exact hne (nth_at (Finset.mem_Ico.mp hn).2 (cell_inj h).2.symm)
  · intro h
    exact absurd (Finset.mem_Ico.mpr ⟨Nat.zero_le _, hlt⟩) h

theorem owed_bar (a c : Dev nD) : owed₀ a (barC c) () = (if a = hop 1 c 1 then 1 else 0) + if a = hop 0 c 1 then 1 else 0 := by
  have hb (d : Fin 2) : tallyAt (Ix := Unit) (barC (hop d a 3)) () 1 (barC c) () = if a = hop d c 1 then 1 else 0 := by
    rw [tallyAt_apply]
    by_cases h : a = hop d c 1
    · rw [if_pos h, if_pos ⟨by rw [← hop_from.mpr h], rfl⟩]
    · rw [if_neg h, if_neg fun h' => h (hop_from.mp (bar_inj h'.1))]
  unfold owed₀
  rw [Pi.add_apply, Finsupp.add_apply, Pi.add_apply, Finsupp.add_apply, rem_bar, hb, hb, Nat.zero_add]

theorem owed_cell (a c : Dev nD) (k : Fin 6) (q : Fin 4) (d : Fin 2) : owed₀ a (cellC c (1, k, q, d)) () = if a = hop d c 1 then N else 0 := by
  unfold owed₀
  rw [Pi.add_apply, Finsupp.add_apply, Pi.add_apply, Finsupp.add_apply, rem_cell, tallyAt_ne_cell (cell_ne_bar _ _ _), tallyAt_ne_cell (cell_ne_bar _ _ _)]
  rfl

theorem launch_bar (c : Dev nD) :
    tallyOn (barC c) (launchCredit (Pipeline.owing owed₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (hop 1 c 1) fun _ => 1, Finset.sum_ite_eq' Finset.univ (hop 0 c 1) fun _ => 1, if_pos (Finset.mem_univ _), if_pos (Finset.mem_univ _)]

theorem launch_cell (c : Dev nD) (k : Fin 6) (q : Fin 4) (d : Fin 2) :
    tallyOn (cellC c (1, k, q, d)) (launchCredit (Pipeline.owing owed₀) 0 (cellC c (1, k, q, d)))
      = (tallyAt (cellC c (1, k, q, d)) () N : CellTallies nD τ sig Unit) := by
  unfold tallyAt; refine congrArg _ (Finsupp.ext fun u => ?_); cases u
  rw [Pipeline.launchCredit_owing, Finsupp.single_eq_same, Finset.sum_congr rfl fun a _ => owed_cell a c k q d,
    Finset.sum_ite_eq' Finset.univ (hop d c 1) fun _ => N, if_pos (Finset.mem_univ _)]

/-- What a device may await: both signals and every arrival. -/
theorem credits (c : Dev nD) : (Pipeline.launchCred owed₀ c : SP F)
    ⊢ iprop(cred (tallyAt (barC c) () 2) ∗ bigSep Finset.univ fun k : Fin 6 => every fun q d => cred (tallyAt (cellC c (1, k, q, d)) () N)) := by
  have hi : Function.Injective fun x : Fin 6 × Fin 4 × Fin 2 => (SemLoc.dma (csem (1, x)) : SemLoc sig) := fun x y h => by
    have h1 : csem (1, x) = csem (1, y) := SemLoc.dma.inj h
    exact (Prod.mk.inj (cnum_inj (congrArg Fin.val h1))).2
  unfold Pipeline.launchCred
  rw [bigSep_univ_at _ (SemLoc.reg bar), launch_bar]
  refine sep_mono_right ?_
  refine (bigSep_subset (t := Finset.univ.map ⟨_, hi⟩) fun s hs => ?_).trans ?_
  · obtain ⟨x, -, rfl⟩ := Finset.mem_map.mp hs
    exact Finset.mem_erase.mpr ⟨fun h => (by cases h), Finset.mem_univ _⟩
  · rw [bigSep_map, trip]
    refine bigSep_mono fun k _ => every_mono fun q d => Entails.of_eq ?_
    exact congrArg _ (launch_cell c k q d)
end Credit

end Cert.KernelIdeal.Ring
-- ==== Proof.Equal.lean ====
module

public import proofs.«01_k».proof.Proof.Plain

@[expose] public section
noncomputable section

namespace Cert.KernelIdeal.Plain

open Idealize.ShloMosaic Idealize.SL.Sem
open Cert.KernelIdeal.Gen

variable {F : FTy → Type} [FloatOps F]

theorem op_congr {E : Type → Type} {α β : Type} {e e' : E β} {k k' : β → Prog E α} (he : e = e') (hk : ∀ x, k x = k' x) :
    Prog.op e k = Prog.op e' k' := by subst he; exact congrArg _ (funext hk)

set_option maxRecDepth 200000 in
set_option maxHeartbeats 0 in
theorem body_eq : (bodyAt0 t0_0 : P (F := F) PUnit) = (Prog.lift .deviceId).bind fun c => body (offs c) (nbr c) := by
  refine op_congr rfl fun c => ?_
  repeat refine op_congr rfl fun _ => ?_
  rfl

end Cert.KernelIdeal.Plain
-- ==== Proof.Launch.lean ====
/- The launch: the shared semaphores set up, every device given its part, and the run. -/
module

public import proofs.«01_k».proof.Proof.Deal
public import proofs.«01_k».proof.Proof.Equal

@[expose] public section

noncomputable section

namespace Cert.KernelIdeal.Ring

open Cert.KernelIdeal.Gen Cert.KernelIdeal.Plain
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The shared semaphores -/

section Shared
variable (I : Ins F)

/-- The kernel's own semaphores: the transfers' and the two of the local copies. -/
abbrev osem : CI ⊕ Fin 2 → SemLoc sig
  | .inl i => .dma (csem i)
  | .inr l => .dma (locS l)

omit [FloatOps F] in
theorem ownSemFacts : Pipeline.OwnSemFacts cfg0.spec osem where
  isScoped := by
    rintro (i | l)
    · revert i; decide +kernel
    · revert l; decide +kernel
  inj := by
    rintro (i | l) (i' | l') h
    · exact congrArg Sum.inl (cnum_inj (congrArg Fin.val (SemLoc.dma.inj h)))
    · have h1 : cnum i = 98 + l'.val := congrArg Fin.val (SemLoc.dma.inj h)
      have := (cnum_lt i).2
      omega
    · have h1 : 98 + l.val = cnum i' := congrArg Fin.val (SemLoc.dma.inj h)
      have := (cnum_lt i').2
      omega
    · have h1 : 98 + l.val = 98 + l'.val := congrArg Fin.val (SemLoc.dma.inj h)
      exact congrArg Sum.inr (Fin.ext (by omega))
  disj := by
    have hs : ∀ (w : Fin 2) (s : Fin (cfg0.spec w).nbuf), ((cfg0.spec w).sem s).val < 2 := by decide +kernel
    rintro (i | l) w s h
    · have h1 : cnum i = ((cfg0.spec w).sem s).val := congrArg Fin.val (SemLoc.dma.inj h)
      have := (cnum_lt i).1; have := hs w s
      omega
    · have h1 : 98 + l.val = ((cfg0.spec w).sem s).val := congrArg Fin.val (SemLoc.dma.inj h)
      have := hs w s
      omega

theorem kcell_injective : Function.Injective (kcell : Dev nD × KI → GSem nD τ sig) := by
  rintro ⟨c, k⟩ ⟨c', k'⟩ h
  cases k with
  | none =>
    cases k' with
    | none => exact congrArg (·, none) (bar_inj h)
    | some i => exact absurd h.symm (cell_ne_bar _ _ _)
  | some i =>
    cases k' with
    | none => exact absurd h (cell_ne_bar _ _ _)
    | some i' =>
      obtain ⟨h1, h2⟩ := cell_inj h
      exact Prod.ext h1 (congrArg some h2)
def cells : Finset (GSem nD τ sig) := Finset.univ.map ⟨kcell, kcell_injective⟩

/-- The duties' tokens as they are made: a device's barrier has two, each of its transfers' semaphores one. -/
def tokOf (x : Dev nD × (Fin 2 ⊕ CI)) : GSem nD τ sig × ℕ × Fin 2 :=
  match x.2 with
  | .inl e => (barC x.1, 0, e)
  | .inr i => (cellC x.1 i, 0, 0)
theorem tokOf_injective : Function.Injective tokOf := by
  rintro ⟨c, e | i⟩ ⟨c', e' | i'⟩ h
  · have h1 : barC c = barC c' := congrArg Prod.fst h
    have h2 : e = e' := congrArg (fun x : GSem nD τ sig × ℕ × Fin 2 => x.2.2) h
    rw [bar_inj h1, h2]
  · exact absurd (congrArg Prod.fst h : barC c = cellC c' i').symm (cell_ne_bar _ _ _)
  · exact absurd (congrArg Prod.fst h : cellC c i = barC c') (cell_ne_bar _ _ _)
  · obtain ⟨h1, h2⟩ := cell_inj (congrArg Prod.fst h : cellC c i = cellC c' i')
    exact Prod.ext h1 (congrArg Sum.inr h2)
def toks : Finset (GSem nD τ sig × ℕ × Fin 2) := Finset.univ.map ⟨tokOf, tokOf_injective⟩

def u₀ : UU := (initOf (Pipeline.cells cfgs cellOf_inj) (Pipeline.launchToks cfgs cellOf_inj), (Emb.inl : Emb UB (UB × Counters)) (initOf cells toks))

/-- A device's own semaphores' tokens. -/
def Made (c : Dev nD) : sProp 𝕄 :=
  iprop((bigSep Finset.univ fun e : Fin 2 => dutyTok ER (barC c) 0 e) ∗ bigSep Finset.univ fun i : CI => dutyTok ER (cellC c i) 0 (0 : Fin 2))

def G (c : Dev nD) : sProp 𝕄 :=
  iprop((bigSep Finset.univ fun k : KI => roundState ER (Rd I) (kcell (c, k)) 0)
    ∗ (bigSep Finset.univ fun k : KI => reached ER (kcell (c, k)) 0) ∗ (bigSep Finset.univ fun k : KI => atPos ER (kcell (c, k)) 0 ∅ 0) ∗ Made c)

theorem fund_ring : BI.own (ER (initOf cells toks)) ⊢ (|==> bigSep Finset.univ (G I) : sProp 𝕄) := by
  have hX (Φ : GSem nD τ sig → sProp 𝕄) : bigSep cells Φ = bigSep Finset.univ fun c : Dev nD => bigSep Finset.univ fun k : KI => Φ (kcell (c, k)) := by
    unfold cells; rw [bigSep_map, bigSep_univ_prod]; rfl
  have hT : bigSep toks (fun x => (dutyTok ER x.1 x.2.1 x.2.2 : sProp 𝕄)) = bigSep Finset.univ fun c : Dev nD => Made c := by
    unfold toks; rw [bigSep_map, bigSep_univ_prod]
    exact bigSep_congr fun c _ => by rw [BI.bigSep_univ_sum]; rfl
  iintro HX
  imod (Rounds.fund ER (Rd I) cells toks) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat]; · iexact Hat
  iexact Htok

/-- The two semaphores of the local copies, at zero. -/
def Locs (c : Dev nD) : sProp 𝕄 := iprop(semVal ((c : Thread nD τ), .dma (locS 0)) 0 ∗ semVal ((c : Thread nD τ), .dma (locS 1)) 0)

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ (Zero c)) ∗ Locs c) := by
  unfold Pipeline.ownSems0
  rw [BI.bigSep_univ_sum, two]
  exact BI.Entails.antisymm (sep_mono_right (sep_mono_right (sep_emp (PROP := sProp 𝕄)).1)) (sep_mono_right (sep_mono_right (sep_emp (PROP := sProp 𝕄)).2))
omit [FloatOps F] in
theorem unscopedSems0_eq (c : Dev nD) : (unscopedSems0 c : sProp 𝕄) = semVal (barC c) 0 := by
  unfold unscopedSems0; rw [bigSep_eq_bigSepL_of_eq [SemLoc.reg bar] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : KI => iprop(∃ κ : ℕ, cellInv ER (Rd I) κ (kcell (c, k))))
          ∗ (bigSep Finset.univ fun k : KI => reached ER (kcell (c, k)) 0)
          ∗ (bigSep Finset.univ fun k : KI => atPos ER (kcell (c, k)) 0 ∅ 0) ∗ Made c ∗ Locs c) := by
  have hz : (bigSep Finset.univ fun k : KI => (semVal (kcell (c, k)) 0 : sProp 𝕄)) = iprop(semVal (barC c) 0 ∗ bigSep Finset.univ (Zero c)) := opt_split _
  rw [ownSems0_eq, unscopedSems0_eq]
  unfold G
  iintro ⟨⟨Hz, Hl⟩, Hb, Hst, Hr, Hat, Htok⟩
  ihave Hv := (Entails.of_eq hz.symm) $$ [Hz Hb]
  · isplitl [Hb] <;> iassumption
  imod (show iprop((bigSep Finset.univ fun k : KI => semVal (kcell (c, k)) 0) ∗ bigSep Finset.univ fun k : KI => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hl

/-- What a device pays with: its two signals' tokens and its transfers'. -/
def Spend (c : Dev nD) : sProp 𝕄 :=
  iprop((dutyTok ER (barC (hop 0 c 3)) 0 (1 : Fin 2) ∗ dutyTok ER (barC (hop 1 c 3)) 0 (0 : Fin 2)) ∗ bigSep Finset.univ fun k => every (Tok c k))

omit [FloatOps F] in
theorem toks_around : (bigSep Finset.univ fun c : Dev nD => (Made c : sProp 𝕄)) ⊢ bigSep Finset.univ fun c : Dev nD => Spend c := by
  have hm (c : Dev nD) : (Made c : sProp 𝕄) = iprop((dutyTok ER (barC c) 0 (0 : Fin 2) ∗ dutyTok ER (barC c) 0 (1 : Fin 2) ∗ emp)
      ∗ (bigSep Finset.univ fun k => every fun q d => dutyTok ER (cellC c (0, k, q, d)) 0 (0 : Fin 2))
      ∗ bigSep Finset.univ fun k => every fun q d => dutyTok ER (cellC c (1, k, q, d)) 0 (0 : Fin 2)) := by
    unfold Made; rw [two, ci_split]
  have hs (c : Dev nD) : (Spend c : sProp 𝕄) = iprop((dutyTok ER (barC (hop 0 c 3)) 0 (1 : Fin 2) ∗ dutyTok ER (barC (hop 1 c 3)) 0 (0 : Fin 2))
      ∗ (bigSep Finset.univ fun k => every fun q d => dutyTok ER (cellC c (0, k, q, d)) 0 (0 : Fin 2))
      ∗ bigSep Finset.univ fun k => every fun q d => dutyTok ER (cellC (hop d c 3) (1, k, q, d)) 0 (0 : Fin 2)) := by
    unfold Spend Tok; rw [← bigSep_sep']
    exact congrArg _ (bigSep_congr fun k _ => every_sep _ _)
  simp only [hm, hs, bigSep_sep']
  rw [signals 1 (fun c : Dev nD => (dutyTok ER (barC c) 0 (0 : Fin 2) : sProp 𝕄)), signals 0 (fun c : Dev nD => (dutyTok ER (barC c) 0 (1 : Fin 2) : sProp 𝕄)),
    arrivals fun c k q d => (dutyTok ER (cellC c (1, k, q, d)) 0 (0 : Fin 2) : sProp 𝕄)]
  iintro ⟨⟨H0, H1, -⟩, HS, HR⟩
  isplitl [H0 H1]
  · isplitl [H1] <;> iassumption
  isplitl [HS] <;> iassumption

/-- What stays with a device. -/
def Lin (c : Dev nD) : sProp 𝕄 :=
  iprop((bigSep Finset.univ fun k : KI => atPos ER (kcell (c, k)) 0 ∅ 0) ∗ Spend c ∗ Locs c)
def G' (c : Dev nD) : sProp 𝕄 := iprop(∃ K, Recs I K ∗ Lin c)

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : KI => iprop(∃ κ : ℕ, cellInv ER (Rd I) κ (kcell (c, k))))
          ∗ (bigSep Finset.univ fun k : KI => reached ER (kcell (c, k)) 0)
          ∗ (bigSep Finset.univ fun k : KI => atPos ER (kcell (c, k)) 0 ∅ 0) ∗ Made c ∗ Locs c) : sProp 𝕄)
      ⊢ bigSep Finset.univ (G' I) := by
  rw [bigSep_sep', bigSep_sep', bigSep_sep', bigSep_sep', ← bigSep_univ_prod (fun x : Dev nD × KI => iprop(∃ κ : ℕ, cellInv ER (Rd I) κ (kcell x))),
    ← bigSep_univ_prod (fun x : Dev nD × KI => (reached ER (kcell x) 0 : sProp 𝕄))]
  iintro ⟨HI, #HR, Hat, Htok, Hl⟩
  ihave HK := (BI.bigSep_exists_pi Finset.univ (fun (x : Dev nD × KI) (κ : ℕ) => (cellInv ER (Rd I) κ (kcell x) : sProp 𝕄))) $$ HI
  icases HK with ⟨%K, #HI⟩
  ihave Htok := (toks_around (F := F)) $$ Htok
  iapply (with_persistent (R := Recs I K) fun c _ => show iprop(Recs I K ∗ Lin c) ⊢ G' I c from by
    unfold G'; iintro H; iexists K; iexact H)
  isplitr
  · unfold Recs; rw [bigSep_sep']
    isplitl; · iexact HI
    iexact HR
  · unfold Lin; rw [bigSep_sep', bigSep_sep']
    isplitl [Hat]; · iexact Hat
    isplitl [Htok]; · iexact Htok
    iexact Hl

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))
end Shared

end Cert.KernelIdeal.Ring
-- ==== Proof.Execution.lean ====
/- The run of the kernel on four devices: what every device ends with. -/
module

public import proofs.«01_k».proof.Proof.Launch
public import Idealize.ShloMosaic.Lib.Pipeline.CollectiveSegs

@[expose] public section

noncomputable section

namespace Cert.KernelIdeal.Ring

open Cert.KernelIdeal.Gen Cert.KernelIdeal.Plain
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

section Run
variable (m : (ℓ : Loc nD τ sig) → Buf (Elt F) ℓ) (ρ : Dev nD → PrngReg)

/-- What the devices hold at the start. -/
def ins : Ins F where
  x c := m ((c : Thread nD τ).loc main_arg0)
  w c := m ((c : Thread nD τ).loc main_arg1)
  sx c := (win0_0.blk t0_0).view.read (Elt F) (m ((c : Thread nD τ).loc main_arg2))
  sw c := (win0_1.blk t0_0).view.read (Elt F) (m ((c : Thread nD τ).loc main_arg3))

/-! ## Before and after -/

/-- The scratch buffers. -/
def Scr (c : Dev nD) : sProp 𝕄 := iprop(Any wV c ∗ Any xV c ∗ Any gV c ∗ Any aV c ∗ Any bV c)
/-- The arrays a device starts with, in tiles. -/
def Arr (c : Dev nD) : sProp 𝕄 :=
  iprop((lend 0 c ∗ lend 1 c) ∗ (Own xM c fullShare ((ins m).x c) ∗ Own wM c fullShare ((ins m).w c))
    ∗ (bigSep Finset.univ fun i : Fin 4 => every fun q d => Any (pT (hop 0 c (ord i)) q d) c) ∗ every fun q d => Any (oT (hop d c 3) q d) c)
/-- Its credits. -/
def Crd (c : Dev nD) : sProp 𝕄 :=
  iprop(cred (tallyAt (barC c) () 2) ∗ bigSep Finset.univ fun k : Fin 6 => every fun q d => cred (tallyAt (cellC c (1, k, q, d)) () N))
def start (c : Dev nD) : sProp 𝕄 := iprop(G' (ins m) c ∗ Arr m c ∗ Crd c ∗ levAts L lv)
def Φ₀ (c : Dev nD) : sProp 𝕄 := iprop(start m c ∗ Scr c)

/-- What a device ends with: its inputs, the whole result in tiles, every semaphore back at zero. -/
def Kept (c : Dev nD) : sProp 𝕄 :=
  iprop((Own xM c fullShare ((ins m).x c) ∗ Own wM c fullShare ((ins m).w c)) ∗ (bigSep Finset.univ fun t : Fin 4 => every (Res (ins m) c t.val))
    ∗ semVal (barC c) 0)
def Φ₁ (c : Dev nD) : sProp 𝕄 := iprop(Kept m c ∗ (bigSep Finset.univ (Zero c) ∗ Locs c) ∗ Scr c)

def dats (_ : Fin 1) (c : Dev nD) : Dat τ (Elt F) Unit ℕ UU ℕ cfg0 c where
  A w := m ((cfg0.win w).arr.view.loc (c : Thread nD τ))
  after w _ := match w with
    | ⟨0, _⟩ => (ins m).sx c
    | ⟨1, _⟩ => (ins m).sw c
  Φ t := match t with
    | ⟨0, _⟩ => Φ₀ m c
    | ⟨_ + 1, _⟩ => Φ₁ m c
  q _ := fullShare
  owed t := match t with
    | ⟨0, _⟩ => owed₀ c
    | ⟨_ + 1, _⟩ => 0

/-! ## The body -/

/-- What the body's judgement takes, from the parts a device is given. -/
theorem gather (K : Dev nD × KI → ℕ) (c : Dev nD) : iprop((Recs (ins m) K ∗ Lin c) ∗ Arr m c ∗ Crd c ∗ levAts L lv ∗ Scr c ∗ owe c (owed₀ c) ∗ Sc (ins m) c)
    ⊢ iprop(Recs (ins m) K ∗ Gear c (owed₀ c) ∗ Meet c ∗ Mem (ins m) c ∗ Toks c) := by
  have hat : (bigSep Finset.univ fun k : KI => (atPos ER (kcell (c, k)) 0 ∅ 0 : sProp 𝕄))
      = iprop(atPos ER (barC c) 0 ∅ 0 ∗ (bigSep Finset.univ fun k => every fun q d => At c (0, k, q, d)) ∗ bigSep Finset.univ fun k => every fun q d => At c (1, k, q, d)) := by
    rw [opt_split, ci_split]; rfl
  have hpos : iprop((bigSep Finset.univ fun k : Fin 6 => every fun q d => (cred (tallyAt (cellC c (1, k, q, d)) () N) : sProp 𝕄))
      ∗ bigSep Finset.univ fun k => every fun q d => At c (1, k, q, d)) = bigSep Finset.univ fun k : Fin 6 => every fun q d => Pos c (1, k, q, d) := by
    rw [← bigSep_sep']
    exact bigSep_congr fun k _ => (every_sep _ _).symm
  unfold Lin Spend Locs Arr Crd Scr Gear Meet Mem Toks
  rw [hat, ← hpos]
  iintro ⟨⟨#HR, ⟨Hb, Ha0, Ha1⟩, ⟨⟨Ht1, Ht0⟩, Htk⟩, Hl0, Hl1⟩, ⟨Hl, ⟨Hx, Hw⟩, Hp, Ho⟩, ⟨Hcb, Hcr⟩, #Hlv, ⟨HwV, HxV, HgV, HaV, HbV⟩, Howe, Hsc⟩
  isplitr; · iexact HR
  isplitl [Howe Hl0 Hl1 HxV HgV HaV HbV]
  · isplitr; · iexact Hlv
    isplitl [Howe]; · iexact Howe
    isplitl [Hl0]; · iexact Hl0
    isplitl [Hl1]; · iexact Hl1
    isplitl [HxV]; · iexact HxV
    isplitl [HgV]; · iexact HgV
    isplitl [HaV] <;> iassumption
  isplitl [Hb Ht1 Ht0 Hcb]
  · isplitl [Ht1]; · iexact Ht1
    isplitl [Ht0]; · iexact Ht0
    isplitl [Hcb] <;> iassumption
  isplitl [Hl Hx Hw HwV Hsc Hp Ho]
  · isplitl [Hl]; · iexact Hl
    isplitl [Hx Hw HwV Hsc]
    · isplitl [Hx]; · iexact Hx
      isplitl [Hw]; · iexact Hw
      isplitl [HwV] <;> iassumption
    isplitl [Hp] <;> iassumption
  isplitl [Hcr Ha1]
  · isplitl [Hcr] <;> iassumption
  isplitl [Ha0] <;> iassumption

/-- What it leaves, in the parts the launch wants back. -/
theorem spread (c : Dev nD) : Done (ins m) c ⊢ iprop(Φ₁ m c ∗ owe c 0 ∗ Sc (ins m) c) := by
  have hz : (bigSep Finset.univ (Zero c) : SP F) = iprop((bigSep Finset.univ fun k => every fun q d => Zero c (0, k, q, d))
      ∗ bigSep Finset.univ fun k => every fun q d => Zero c (1, k, q, d)) := ci_split _
  unfold Done Φ₁ Kept Gear Locs Scr
  rw [hz]
  iintro ⟨⟨⟨-, Howe, Hl0, Hl1, HxV, HgV, HaV, HbV⟩, Hb⟩, ⟨Hx, Hw, HwV, Hsc⟩, Hres, Hz1, Hz0⟩
  isplitr [Howe Hsc]
  · isplitl [Hx Hw Hres Hb]
    · isplitl [Hx Hw]
      · isplitl [Hx] <;> iassumption
      isplitl [Hres] <;> iassumption
    isplitl [Hz0 Hz1 Hl0 Hl1]
    · isplitl [Hz0 Hz1]
      · isplitl [Hz0] <;> iassumption
      isplitl [Hl0] <;> iassumption
    isplitl [HwV]; · iexact HwV
    isplitl [HxV]; · iexact HxV
    isplitl [HgV]; · iexact HgV
    isplitl [HaV] <;> iassumption
  isplitl [Howe] <;> iassumption

theorem sound (c : Dev nD) : Tri c iprop(Φ₀ m c ∗ owe c (owed₀ c) ∗ Sc (ins m) c) (bodyAt0 t0_0) iprop(Φ₁ m c ∗ owe c 0 ∗ Sc (ins m) c) := by
  unfold Tri
  rw [body_eq, show ((Prog.lift .deviceId : P (F := F) (Dev nD)).bind fun c => Plain.body (offs c) (nbr c))
    = .op .deviceId fun c => Plain.body (offs c) (nbr c) from rfl, wp_deviceId, offs_eq, show nbr c = fun d => hop d c 3 from funext fun d => nbr_eq c d]
  unfold Φ₀ start G'
  iintro ⟨⟨⟨⟨%K, HG⟩, Ha, Hc, Hl⟩, Hs⟩, Ho, Hsc⟩
  have h := (body_tri (ins m) K (c := c)).conseq (gather m K c) (spread m c)
  unfold Tri at h
  iapply h
  isplitl [HG]; · iexact HG
  isplitl [Ha]; · iexact Ha
  isplitl [Hc]; · iexact Hc
  isplitl [Hl]; · iexact Hl
  isplitl [Hs]; · iexact Hs
  isplitl [Ho] <;> iassumption

omit [FloatOps F] in
theorem fetch0 (w : Fin cfg0.W) : (cfg0.win w).fetch t0_0 = true := by fin_cases w <;> rfl

theorem before0 (c : Dev nD) (d) : (dats m 0 c).before (0 : Fin 2) t0_0 d = (ins m).sx c := by unfold Dat.before; rw [if_pos (fetch0 0)]; rfl
theorem before1 (c : Dev nD) (d) : (dats m 0 c).before (1 : Fin 2) t0_0 d = (ins m).sw c := by unfold Dat.before; rw [if_pos (fetch0 1)]; rfl

set_option maxRecDepth 10000 in
theorem obligation (c : Dev nD) : BodyObligation (dats m 0 c) (defs₀ (F := F)) 𝒱₀ () Set.univ := fun t => by
  rw [fin_N0 t, bigSep_W0, bigSep_W0]
  have h := sound m c
  unfold Tri owe Sc at h
  rw [show defs₀ (F := F) .tc cfg0.body (cfg0.bodyArgs t0_0 (cfg0.slots t0_0)) = bodyAt0 t0_0 from rfl]
  generalize (bodyAt0 t0_0 : P (F := F) PUnit) = B at h ⊢
  show iprop(Φ₀ m c ∗ (dats m 0 c).owesAt () t0_0.castSucc ∗ (∃ d, Own sxM c fullShare ((dats m 0 c).before (0 : Fin 2) t0_0 d))
      ∗ (∃ d, Own swM c fullShare ((dats m 0 c).before (1 : Fin 2) t0_0 d)))
    ⊢ wp Idealize.ShloMosaic.frame (wpE (defs₀ (F := F)) 𝒱₀ (c : Thread nD τ) none) Set.univ B
      fun _ => iprop(Φ₁ m c ∗ (dats m 0 c).owesAt () t0_0.succ ∗ Own sxM c fullShare ((ins m).sx c) ∗ Own swM c fullShare ((ins m).sw c))
  have hpre : iprop(Φ₀ m c ∗ (dats m 0 c).owesAt () t0_0.castSucc ∗ (∃ d, Own sxM c fullShare ((dats m 0 c).before (0 : Fin 2) t0_0 d))
      ∗ (∃ d, Own swM c fullShare ((dats m 0 c).before (1 : Fin 2) t0_0 d)))
      ⊢ iprop(Φ₀ m c ∗ (∃ W, owes (c : Thread nD τ) (owed₀ c) W) ∗ Own sxM c fullShare ((ins m).sx c) ∗ Own swM c fullShare ((ins m).sw c)) := by
    simp only [before0, before1]
    unfold Dat.owesAt Pipeline.owesWithin
    iintro ⟨H, ⟨%W, -, HO⟩, ⟨%d, Hx⟩, ⟨%d', Hw⟩⟩
    isplitl [H]; · iexact H
    isplitl [HO]; · iexists W; iexact HO
    isplitl [Hx] <;> iassumption
  refine (hpre.trans h).trans (wp_mono _ _ _ fun _ => ?_)
  unfold Dat.owesAt Pipeline.owesWithin
  show iprop(Φ₁ m c ∗ (∃ W, owes (c : Thread nD τ) 0 W) ∗ Own sxM c fullShare ((ins m).sx c) ∗ Own swM c fullShare ((ins m).sw c)) ⊢ _
  iintro ⟨H, ⟨%W, HO⟩, Hs⟩
  isplitl [H]; · iexact H
  isplitl [HO]
  · iexists W; isplitr
    · ipureintro; exact fun _ _ => Or.inl trivial
    · iexact HO
  · iexact Hs

/-! ## The side conditions -/

theorem share_eq (c : Dev nD) (w : Fin cfg0.W) : (dats m 0 c).share w = fullShare := by unfold Dat.share; split <;> rfl

omit [FloatOps F] in
theorem above_owed (c : Dev nD) : Above 0 (owed₀ c) := by
  intro g u hg
  unfold owed₀ at hg
  rw [Pi.add_apply, Finsupp.add_apply, Pi.add_apply, Finsupp.add_apply] at hg
  by_cases h1 : 0 < rem c 0 g u
  · exact above_rem c (b := 0) (n := 0) (by omega) g u h1
  · by_cases h2 : 0 < tallyAt (Ix := Unit) (barC (hop 1 c 3)) () 1 g u
    · rw [tally_pos h2]; exact ⟨rfl, Nat.one_pos⟩
    · have h3 : 0 < tallyAt (Ix := Unit) (barC (hop 0 c 3)) () 1 g u := by omega
      rw [tally_pos h3]; exact ⟨rfl, Nat.one_pos⟩

theorem waits (c : Dev nD) : (levAts L lv : sProp 𝕄) ⊢ Pipeline.cellsWaits cfgs (dats m) () 0 c :=
  Pipeline.cellsWaits_intro cfgs (dats m) () 0 c fun w s t => by
    have hl : lv ((c : Thread nD τ), .dma ((cfg0.win w).sem s)) () ≤ 0 := by revert c w s; decide +kernel
    rcases t with ⟨_ | _, ht⟩
    · exact (above_owed c).mayWait c _ hl
    · show levAts L lv ⊢ MayWait (c : Thread nD τ) _ () 0
      rw [MayWait_zero]
      exact Laws.affine

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (ins m) c)
      ⊢ |={Set.univ}=> iprop(start m c ∗ emp) := by
  rw [Pipeline.unscopedRestP_none, unscopedRest0_eq]
  iintro ⟨⟨Hx, Hw, Ho, Hc, Hp⟩, Hlev, Hcr, -, HG⟩
  ihave Hcr := (credits (F := F) c) $$ Hcr
  ihave Ha := (arrays (F := F) c) $$ [Ho Hc Hp]
  · isplitl [Ho]; · iapply (any_whole main_v1_0 c); iexists _; iexact Ho
    isplitl [Hc]; · iapply (any_whole main_v1_1 c); iexists _; iexact Hc
    iapply (any_whole main_v1_2 c); iexists _; iexact Hp
  icases Ha with ⟨Hl, Hp, Ho⟩
  ihave Hx := (own_whole main_arg0 c (m ((c : Thread nD τ).loc main_arg0))) $$ Hx
  ihave Hw := (own_whole main_arg1 c (m ((c : Thread nD τ).loc main_arg1))) $$ Hw
  imodintro
  unfold start Arr Crd
  isplitl
  · isplitl [HG]; · iexact HG
    isplitl [Hl Hx Hw Hp Ho]
    · isplitl [Hl]; · iexact Hl
      isplitl [Hx Hw]
      · isplitl [Hx]; · iexact Hx
        iexact Hw
      isplitl [Hp] <;> iassumption
    isplitl [Hcr] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Scr
  iintro ⟨Hs, -, H0, H1, H2, H3, H4⟩
  isplitl [Hs]; · iexact Hs
  isplitl [H0]; · iapply (any_whole cc0_scratch0 c); iexact H0
  isplitl [H1]; · iapply (any_whole cc0_scratch1 c); iexact H1
  isplitl [H2]; · iapply (any_whole cc0_scratch2 c); iexact H2
  isplitl [H3]; · iapply (any_whole cc0_scratch3 c); iexact H3
  iapply (any_whole cc0_scratch4 c); iexact H4

theorem phi1_exit (c : Dev nD) :
    (dats m 0 c).Φ (Fin.last cfg0.N) ⊢ iprop(Kept m c ∗ Pipeline.ownSems0 osem c ∗ Pipeline.scopedRest cfg0.spec c) := by
  rw [show (dats m 0 c).Φ (Fin.last cfg0.N) = Φ₁ m c from rfl, scopedRest0_eq, ownSems0_eq]
  unfold Φ₁ Scr
  iintro ⟨Hk, Hz, H0, H1, H2, H3, H4⟩
  isplitl [Hk]; · iexact Hk
  isplitl [Hz]; · iexact Hz
  isplitl [H0]; · iapply (whole_any cc0_scratch0 c); iexact H0
  isplitl [H1]; · iapply (whole_any cc0_scratch1 c); iexact H1
  isplitl [H2]; · iapply (whole_any cc0_scratch2 c); iexact H2
  isplitl [H3]; · iapply (whole_any cc0_scratch3 c); iexact H3
  iapply (whole_any cc0_scratch4 c); iexact H4

/-! ## What is read off the last state -/

/-- What a device's memory and semaphores say at the end. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ (∀ (j q : Fin 4) (d : Fin 2), (oT j q d).view.read (Elt F) (s.mem ((c : Thread nD τ).loc main_v1_0)) = ov (ins m) j q d)
    ∧ ∀ sm : SemLoc sig, sm.isScoped .tc = false → s.sem ((c.tc : Thread nD τ), sm) = 0

theorem own_read {sp : Space} {s : Shape} {e : EltTy} (M : Memref sig .tc sp s e) (c : Dev nD) {q : PosShare TreeShare} {X : s.Idx → Elt F e}
    (s' : Phys nD τ sig (Elt F)) : iprop(Own M c q X ∗ SI s') ⊢ (⌜M.view.read (Elt F) (s'.mem.mem (M.view.loc (c : Thread nD τ))) = X⌝ : sProp 𝕄) := by
  unfold Own
  iintro ⟨⟨%f, %hf, H⟩, HSI⟩
  ihave %h := (SI_pointsTo_agree (st := s')) $$ [H HSI]
  · isplitl [HSI] <;> iassumption
  ipureintro
  rw [← hf]
  exact View.read_congr h

theorem hop_onto (d : Fin 2) (c : Dev nD) (j : Fin 4) : ∃ t : Fin 4, hop d c t.val = j := by revert d c j; decide +kernel

theorem tiles_read (c : Dev nD) (s' : Phys nD τ sig (Elt F)) : iprop((bigSep Finset.univ fun t : Fin 4 => every (Res (ins m) c t.val)) ∗ SI s')
    ⊢ (⌜∀ (j q : Fin 4) (d : Fin 2), (oT j q d).view.read (Elt F) (s'.mem.mem ((c : Thread nD τ).loc main_v1_0)) = ov (ins m) j q d⌝ : sProp 𝕄) := by
  refine Entails.trans (forall_intro fun j => ?_) pure_forall.2
  refine Entails.trans (forall_intro fun q => ?_) pure_forall.2
  refine Entails.trans (forall_intro fun d => ?_) pure_forall.2
  obtain ⟨t, rfl⟩ := hop_onto d c j
  have h : (bigSep Finset.univ fun t : Fin 4 => every (Res (ins m) c t.val)) ⊢ Res (ins m) c t.val q d :=
    (bigSep_elim (Finset.mem_univ t)).trans ((bigSep_elim (Finset.mem_univ q)).trans (bigSep_elim (Finset.mem_univ d)))
  exact (sep_mono_left h).trans (own_read (oT (hop d c t.val) q d) c s')

theorem ends (c : Dev nD) (s' : Phys nD τ sig (Elt F)) : iprop(Kept m c ∗ emp ∗ SI s') ⊢ |={Set.univ}=> iprop(⌜Ends m c s'.mem⌝ ∗ SI s') := by
  unfold Kept
  iintro ⟨⟨⟨Hx, Hw⟩, Hr, Hb⟩, -, HSI⟩
  ihave %hx := (own_read xM c s') $$ [Hx HSI]
  · isplitl [Hx] <;> iassumption
  ihave %hw := (own_read wM c s') $$ [Hw HSI]
  · isplitl [Hw] <;> iassumption
  ihave %hr := (tiles_read m c s') $$ [Hr HSI]
  · isplitl [Hr] <;> iassumption
  ihave Hb := (Entails.of_eq (unscopedSems0_eq (F := F) c).symm) $$ Hb
  imod (Pipeline.unscopedSems0_read (X := unscopedSems0 c) (c := c) fupd_intro s') $$ [Hb HSI] with ⟨%hs, HSI⟩
  · isplitl [Hb] <;> iassumption
  imodintro
  isplitr
  · ipureintro
    rw [Memref.view_whole, View.read_whole] at hx hw
    exact ⟨hx, hw, hr, hs⟩
  · iexact HSI

/-! ## The run -/

theorem final (s : MemSt nD τ sig (Elt F))
    (h : ∀ c : Dev nD, s.mem ((c : Thread nD τ).loc main_arg2) = (dats m 0 c).arrAt (0 : Fin 2) cfg0.N
      ∧ s.mem ((c : Thread nD τ).loc main_arg3) = (dats m 0 c).arrAt (1 : Fin 2) cfg0.N ∧ Ends m c s)
    (hs : ∀ g' : GSem nD τ sig, (g'.1.2 ≠ .tc ∨ g'.2.isScoped .tc = true) → s.sem g' = 0) :
    (∀ c : Dev nD, Ends m c s ∧ s.mem ((c : Thread nD τ).loc main_arg2) = m ((c : Thread nD τ).loc main_arg2)
      ∧ s.mem ((c : Thread nD τ).loc main_arg3) = m ((c : Thread nD τ).loc main_arg3)) ∧ s.sem = fun _ => 0 :=
  ⟨fun c => ⟨(h c).2.2, (h c).1.trans ((dats m 0 c).arrAt_in (0 : Fin 2) rfl _), (h c).2.1.trans ((dats m 0 c).arrAt_in (1 : Fin 2) rfl _)⟩,
    sem_eq_zero hs fun c => (h c).2.2.2.2.2⟩

set_option maxRecDepth 10000 in
/-- On four devices, from any memory, every run of the kernel ends, with both inputs as they were, both scales as they
    were, the whole result on every device, tile by tile, and every semaphore at zero. -/
theorem run : θ_run defs (onTc (τ := τ) (main (F := F))) ⟨m, fun _ => 0, ρ⟩ (fun r => (∀ c : Dev nD, Ends m c r.2
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := ?hmain)
    (hbody := ?hbody) (hne := ?hne) (harr := ?harr) (hstage := ?hstage) (hshare := ?hshare)
    (hdistinct := ?hdist)
    (O₀ := owed₀) (howed₀ := ?howed) (howedN := ?howedN)
    (L := L) (lv := lv) (hL := ?hL) (hwaits := ?hwaits)
    (G := G (ins m)) (G' := G' (ins m)) (u₀ := u₀)
    (hu₀ := ?hu)
    (hglob := ?hglob)
    (hA := ?hA) (hpf := ?hpf)
    (X := start m) (Y := Kept m) (Z := fun _ => iprop(emp))
    (hX := ?hX) (hin := ?hin) (hout := ?hout)
    (QY := Ends m) (hY := ?hY)
    (hQ := ?hQ)
  case hmain => exact fun _ => rfl
  case hbody => exact fun c => (obligation m c).loose
  case hne => exact block_pos0
  case harr => exact arr_whole0
  case hstage => exact stage_whole0
  case hshare => exact share_eq m
  case hdist => exact winFacts0.arr_inj
  case howed => exact fun _ => rfl
  case howedN => exact fun _ => rfl
  case hL => exact L_of_ne
  case hwaits => exact waits m
  case hu =>
    unfold u₀
    iintro Hu
    ihave H := (ownU_pair _ _) $$ Hu
    icases H with ⟨HP, HX⟩
    imod (fund_ring (ins m)) $$ HX with HG
    imodintro
    isplitl [HP] <;> iassumption
  case hglob => exact glob (ins m)
  case hA => exact fun _ _ => rfl
  case hpf => exact fun _ k => k.elim0
  case hX => exact start_intro m ρ
  case hin => exact phi0_intro m
  case hout => exact phi1_exit m
  case hY => exact ends m
  case hQ => exact fun s h hs => final m s (fun c => ⟨(h c).1 0, (h c).1 1, (h c).2.2⟩) hs

end Run

end Cert.KernelIdeal.Ring
-- ==== Proof.Value.lean ====
/- What the ring computes, as exact numbers: every tile of the result is the reference's. -/
module

public import proofs.«01_k».proof.Proof.Execution
public import proofs.«01_k».proof.Proof.Gen.ReferenceIdeal.Run
public import Idealize.ShloMosaic.Lib.MatmulPlain
public import Idealize.ShloMosaic.Lib.Layout
public import Idealize.ShloMosaic.Lib.Pipeline.Value

@[expose] public section

noncomputable section

namespace Cert.KernelIdeal.Ring

open Cert.KernelIdeal.Gen Cert.KernelIdeal.Plain
open Idealize.ShloMosaic Idealize.ShloMosaic.ValueIdx
open Idealize.ShloMosaic.TcCoe
open Idealize.SL.Sem
open scoped BigOperators

/-! ## The numbers -/

/-- The whole left operand and the whole right operand. -/
abbrev XAll : Type := (⟨2, ![4096, 4096]⟩ : Shape).Idx → BitVec 8
abbrev WAll : Type := (⟨2, ![4096, 8192]⟩ : Shape).Idx → BitVec 8

/-- Each device has one block of columns of the left operand and one block of rows of the right one. -/
theorem cut_x : Layout.Tiles ⟨2, ![4096, 1024]⟩ ⟨2, ![4096, 4096]⟩ 1 4 := by decide
theorem cut_w : Layout.Tiles ⟨2, ![1024, 8192]⟩ ⟨2, ![4096, 8192]⟩ 0 4 := by decide

/-- The integer of a byte. -/
def num (b : BitVec 8) : EReal := ((b.toInt : ℝ) : EReal)

/-- One product of the contraction, -/
def term (X : XAll) (W : WAll) (r : Fin 4096) (n : Fin 8192) (k : Fin 4096) : EReal := num (X (ix2 r k)) * num (W (ix2 k n))
/-- the position `k` of block `c` of the contraction, -/
def at_ (c : Fin 4) (k : Fin 1024) : Fin 4096 := ⟨1024 * c.val + k.val, by have := c.isLt; have := k.isLt; omega⟩
/-- and block `c`'s part of the contraction. -/
def part (X : XAll) (W : WAll) (c : Fin 4) (r : Fin 4096) (n : Fin 8192) : EReal := ∑ k : Fin 1024, term X W r n (at_ c k)

/-- The four parts make the contraction. -/
theorem parts_sum (X : XAll) (W : WAll) (r : Fin 4096) (n : Fin 8192) :
    ∑ c : Fin 4, part X W c r n = ∑ k : Fin 4096, term X W r n k := by
  unfold part
  rw [← Fintype.sum_prod_type' (f := fun (c : Fin 4) (k : Fin 1024) => term X W r n (at_ c k)),
    ← Equiv.sum_comp (finProdFinEquiv (m := 4) (n := 1024)) (fun k : Fin (4 * 1024) => term X W r n k)]
  refine Finset.sum_congr rfl fun p _ => congrArg (term X W r n) (Fin.ext ?_)
  show 1024 * p.1.val + p.2.val = p.2.val + 1024 * p.1.val
  omega

/-- Going round the ring once visits every device. -/
theorem round (d : Fin 2) (c : Fin 4) (f : Fin 4 → EReal) :
    f (hop d c 3) + f (hop d c 2) + f (hop d c 1) + f c = ∑ i : Fin 4, f i := by
  have hb : Function.Bijective (fun i : Fin 4 => hop d c i.val) := by revert d c; decide +kernel
  rw [← hb.sum_comp f, Fin.sum_univ_four]
  show _ = f (hop d c 0) + f (hop d c 1) + f (hop d c 2) + f (hop d c 3)
  rw [hop_zero]
  ac_rfl

/-- The result's element from the contraction and the scale. -/
def silu (a s : EReal) : EReal :=
  Ideal.div (a * s) (Ideal.ofBits .f32 0x3F800000#32
    + Ideal.exp (-(min (Ideal.ofBits .f32 0x42700000#32) (max (Ideal.ofBits .f32 0xC2700000#32) (a * s)))))

/-! ## The kernel's operations -/

theorem dot_plain : dot_S256x1024_S1024x4096_S256x4096_1_0_0_1_n_n = DotDims.plain 256 1024 4096 := rfl

theorem dotV_apply (x : Vec Ideal S256x1024 .i8) (w : Vec Ideal S1024x4096 .i8) (a : Fin 256) (b : Fin 4096) :
    dotV (F := Ideal) x w (ix2 a b) = ∑ k : Fin 1024, num (x (ix2 a k)) * num (w (ix2 k b)) := by
  unfold dotV k0_pay2 k0_pay1
  dsimp only
  rw [shapeCast_self, dot_plain]
  refine (Ideal.matmul_plain_apply none _ _ _ a b).trans ?_
  rw [show constant (F := Ideal) S256x4096 .f32 0x00000000#32 (ix2 a b) = 0 from Ideal.ofBits_zero_f32, zero_add]
  rfl

theorem addV_apply (a b : Vec Ideal S256x4096 .f32) (y : S256x4096.Idx) : addV (F := Ideal) a b y = (show EReal from a y) + (show EReal from b y) := by
  unfold addV k0_pay69 k0_pay68
  dsimp only
  rw [shapeCast_self]
  rfl

theorem epiV_apply (a b : Vec Ideal S256x4096 .f32) (sx sw : EReal) (y : S256x4096.Idx) :
    epiV (F := Ideal) a b sx sw y = silu ((show EReal from a y) + (show EReal from b y)) (sx * sw) := by
  unfold epiV k0_pay78
  dsimp only
  rw [shapeCast_self]
  show Ideal.div _ (_ + Ideal.exp (Ideal.ofBits .f32 0x00000000#32 - _)) = _
  rw [Ideal.ofBits_zero_f32, zero_sub]
  rfl

/-! ## A tile -/

section Tile
variable (I : Ins Ideal) (X : XAll) (W : WAll)
  (hx : ∀ c : Fin 4, I.x c = Layout.block ⟨2, ![4096, 1024]⟩ ⟨2, ![4096, 4096]⟩ 1 4 c X cut_x)
  (hw : ∀ c : Fin 4, I.w c = Layout.block ⟨2, ![1024, 8192]⟩ ⟨2, ![4096, 8192]⟩ 0 4 c W cut_w)
include hx hw

def row (j q : Fin 4) (a : Fin 256) : Fin 4096 := ⟨1024 * j.val + 256 * q.val + a.val, by have := j.isLt; have := q.isLt; have := a.isLt; omega⟩
def col (d : Fin 2) (b : Fin 4096) : Fin 8192 := ⟨4096 * d.val + b.val, by have := d.isLt; have := b.isLt; omega⟩

omit hw in
theorem x_apply (c j q : Fin 4) (a : Fin 256) (k : Fin 1024) : xRows (F := Ideal) (I.x c) (xO j q) (ix2 a k) = X (ix2 (row j q a) (at_ c k)) := by
  unfold xRows
  rw [hx c]
  refine congrArg X (funext fun e => Fin.ext ?_)
  match e with
  | ⟨0, _⟩ => show 1024 * j.val + 256 * q.val + 1 * a.val = 1024 * j.val + 256 * q.val + a.val; omega
  | ⟨1, _⟩ => show c.val * 1024 + (0 + 1 * k.val) = 1024 * c.val + k.val; omega

omit hx in
theorem w_apply (c : Fin 4) (d : Fin 2) (k : Fin 1024) (b : Fin 4096) : wHalf (F := Ideal) (I.w c) d (ix2 k b) = W (ix2 (at_ c k) (col d b)) := by
  unfold wHalf
  rw [hw c]
  refine congrArg W (funext fun e => Fin.ext ?_)
  match e with
  | ⟨0, _⟩ => show c.val * 1024 + (0 + 1 * k.val) = 1024 * c.val + k.val; omega
  | ⟨1, _⟩ => show 4096 * d.val + 1 * b.val = 4096 * d.val + b.val; omega

theorem pt_apply (c j q : Fin 4) (d : Fin 2) (a : Fin 256) (b : Fin 4096) :
    pt I c j q d (ix2 a b) = part X W c (row j q a) (col d b) := by
  unfold pt
  rw [dotV_apply]
  refine Finset.sum_congr rfl fun k _ => ?_
  rw [x_apply I X hx, w_apply I W hw]
  rfl

/-- The running sum of chunk `j`, where it is finished. -/
theorem cv_apply (j q : Fin 4) (d : Fin 2) (a : Fin 256) (b : Fin 4096) :
    (show EReal from cv I 2 q d (hop d j 1) (ix2 a b)) + (show EReal from pt I (hop d j 1) j q d (ix2 a b))
      = ∑ k : Fin 4096, term X W (row j q a) (col d b) k := by
  have e2 : cv I 2 q d (hop d j 1) = addV (addV (pt I (hop d (hop d j 1) 3) j q d) (pt I (hop d (hop d j 1) 2) j q d)) (pt I (hop d (hop d j 1) 1) j q d) := by
    simp only [cv, hop_hop]
    rw [show hop d j (1 + 1 + 1 + 1) = j from by revert d j; decide, show hop d j (1 + 1 + 1) = hop d j (1 + 2) from rfl]
  rw [e2, addV_apply, addV_apply, pt_apply I X W hx hw, pt_apply I X W hx hw, pt_apply I X W hx hw, pt_apply I X W hx hw]
  exact (round d (hop d j 1) fun c => part X W c (row j q a) (col d b)).trans (parts_sum X W _ _)

theorem ov_apply (sx sw : EReal) (hsx : ∀ c : Fin 4, I.sx c z1 = sx) (hsw : ∀ c : Fin 4, I.sw c z1 = sw) (j q : Fin 4) (d : Fin 2) (a : Fin 256) (b : Fin 4096) :
    ov I j q d (ix2 a b) = silu (∑ k : Fin 4096, term X W (row j q a) (col d b) k) (sx * sw) := by
  unfold ov
  rw [hsx, hsw, epiV_apply, cv_apply I X W hx hw]

end Tile

/-! ## The whole result -/

/-- The reference's result. -/
def result (X : XAll) (W : WAll) (sx sw : EReal) : (⟨2, ![4096, 8192]⟩ : Shape).Idx → EReal :=
  fun i => silu (∑ k : Fin 4096, term X W (i 0) (i 1) k) (sx * sw)

theorem place (j q : Fin 4) (d : Fin 2) (a : Fin 256) (b : Fin 4096) :
    (Rect.unit (s := S4096x8192) (hO j q d).1 S256x4096.size (hO j q d).2).emb (ix2 a b) = ix2 (row j q a) (col d b) := by
  refine funext fun e => Fin.ext ?_
  match e with
  | ⟨0, _⟩ => show 1024 * j.val + 256 * q.val + 1 * a.val = 1024 * j.val + 256 * q.val + a.val; omega
  | ⟨1, _⟩ => show 4096 * d.val + 1 * b.val = 4096 * d.val + b.val; omega

/-- An array whose tiles are the kernel's is the reference's result. -/
theorem whole_eq (I : Ins Ideal) (X : XAll) (W : WAll)
    (hx : ∀ c : Fin 4, I.x c = Layout.block ⟨2, ![4096, 1024]⟩ ⟨2, ![4096, 4096]⟩ 1 4 c X cut_x)
    (hw : ∀ c : Fin 4, I.w c = Layout.block ⟨2, ![1024, 8192]⟩ ⟨2, ![4096, 8192]⟩ 0 4 c W cut_w)
    (sx sw : EReal) (hsx : ∀ c : Fin 4, I.sx c z1 = sx) (hsw : ∀ c : Fin 4, I.sw c z1 = sw)
    (f : S4096x8192.Idx → Elt Ideal .f32) (hf : ∀ j q d, (oT j q d).view.read (Elt Ideal) f = ov I j q d) :
    f = result X W sx sw := by
  funext i
  obtain ⟨j, q, d, y, rfl⟩ := tile_of i
  obtain ⟨a, b, rfl⟩ : ∃ (a : Fin 256) (b : Fin 4096), y = ix2 a b := ⟨y 0, y 1, eq_ix2 y⟩
  have h : f ((Rect.unit (s := S4096x8192) (hO j q d).1 S256x4096.size (hO j q d).2).emb (ix2 a b)) = ov I j q d (ix2 a b) :=
    congrFun (hf j q d) (ix2 a b)
  refine h.trans ?_
  rw [ov_apply I X W hx hw sx sw hsx hsw, place]
  rfl

/-! ## The scales -/

theorem scale_x (m : (ℓ : Loc nD τ sig) → Buf (Elt Ideal) ℓ) (c : Dev nD) : (ins m).sx c z1 = m ((c : Thread nD τ).loc main_arg2) z1 :=
  congrArg (m ((c : Thread nD τ).loc main_arg2)) (S1_one _)
theorem scale_w (m : (ℓ : Loc nD τ sig) → Buf (Elt Ideal) ℓ) (c : Dev nD) : (ins m).sw c z1 = m ((c : Thread nD τ).loc main_arg3) z1 :=
  congrArg (m ((c : Thread nD τ).loc main_arg3)) (S1_one _)

/-! ## The reference -/

open Cert.ReferenceIdeal in
theorem ref_plain : dot_S4096x4096_S4096x8192_S4096x8192_1_0_0_1_n_n = DotDims.plain 4096 4096 8192 := rfl

open Cert.ReferenceIdeal Cert.ReferenceIdeal.Gen in
theorem ref_dot (X : XAll) (W : WAll) (r : Fin 4096) (n : Fin 8192) :
    Host.dotGeneral (F := Ideal) dot_S4096x4096_S4096x8192_S4096x8192_1_0_0_1_n_n none
      (sitofp .f32 (extsi 32 X natLt_8_32)) (sitofp .f32 (extsi 32 W natLt_8_32)) (ix2 r n) = ∑ k : Fin 4096, term X W r n k := by
  rw [ref_plain]
  refine (Ideal.matmul_plain_apply none (sitofp (F := Ideal) .f32 (extsi 32 X natLt_8_32)) (sitofp (F := Ideal) .f32 (extsi 32 W natLt_8_32)) (fun _ => 0) r n).trans ?_
  rw [zero_add]
  refine Finset.sum_congr rfl fun k _ => ?_
  have e : ∀ b : BitVec 8, (((b.signExtend 32).toInt : ℝ) : EReal) = num b := fun b => by
    unfold num; rw [BitVec.toInt_signExtend_of_le (by decide)]
  show (((((X (ix2 r k)).signExtend 32).toInt : ℝ) : EReal)) * (((((W (ix2 k n)).signExtend 32).toInt : ℝ) : EReal)) = _
  rw [e, e]
  rfl

open Cert.ReferenceIdeal Cert.ReferenceIdeal.Gen in
theorem ref_eq (X : XAll) (W : WAll) (sx sw : (⟨1, ![1]⟩ : Shape).Idx → EReal) :
    Host.divf (F := Ideal) (φ := .f32) (mulf (Host.dotGeneral dot_S4096x4096_S4096x8192_S4096x8192_1_0_0_1_n_n none (sitofp .f32 (extsi 32 X natLt_8_32)) (sitofp .f32 (extsi 32 W natLt_8_32))) (broadcastInDim S4096x8192 ![0, 1] bcast_S1x1_S4096x8192_0_1 (broadcastInDim S1x1 ![1] bcast_S1_S1x1_1 (mulf sx sw)))) (addf (broadcastInDim S4096x8192 ![] bcast_S_S4096x8192 (constant S_ .f32 0x3F800000#32)) (Host.exp (Host.negf (minimumf (broadcastInDim S4096x8192 ![] bcast_S_S4096x8192 (id (constant S_ .f32 0x42700000#32))) (maximumf (broadcastInDim S4096x8192 ![] bcast_S_S4096x8192 (id (constant S_ .f32 0xC2700000#32))) (mulf (Host.dotGeneral dot_S4096x4096_S4096x8192_S4096x8192_1_0_0_1_n_n none (sitofp .f32 (extsi 32 X natLt_8_32)) (sitofp .f32 (extsi 32 W natLt_8_32))) (broadcastInDim S4096x8192 ![0, 1] bcast_S1x1_S4096x8192_0_1 (broadcastInDim S1x1 ![1] bcast_S1_S1x1_1 (mulf sx sw)))))))))
      = result X W (sx z1) (sw z1) := by
  generalize hD : Host.dotGeneral (F := Ideal) dot_S4096x4096_S4096x8192_S4096x8192_1_0_0_1_n_n none
      (sitofp .f32 (extsi 32 X natLt_8_32)) (sitofp .f32 (extsi 32 W natLt_8_32)) = D
  funext i
  have hd : D i = ∑ k : Fin 4096, term X W (i 0) (i 1) k := by
    rw [← hD]; conv_lhs => rw [eq_ix2 i]
    exact ref_dot X W (i 0) (i 1)
  have hs : broadcastInDim S4096x8192 ![0, 1] bcast_S1x1_S4096x8192_0_1 (broadcastInDim S1x1 ![1] bcast_S1_S1x1_1 (mulf (F := Ideal) (φ := .f32) sx sw)) i = sx z1 * sw z1 := by
    have h1 : ∀ x : S1.Idx, mulf (F := Ideal) (φ := .f32) sx sw x = sx z1 * sw z1 := fun x => by rw [show x = z1 from S1_one x]; rfl
    exact h1 _
  unfold result
  rw [← hd]
  generalize broadcastInDim S4096x8192 ![0, 1] bcast_S1x1_S4096x8192_0_1 (broadcastInDim S1x1 ![1] bcast_S1_S1x1_1 (mulf (F := Ideal) (φ := .f32) sx sw)) = B at hs ⊢
  show silu (D i) (B i) = _
  rw [hs]

end Cert.KernelIdeal.Ring
-- ==== Proof.lean ====
/- The proof of the claims (proofs.«01_k».proof.Defs): both kernels' runs are Proof/Execution.lean and Proof/Bits/Execution.lean,
   the value of the idealized one is Proof/Value.lean, the reference's run is the generated one. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bits.Execution
public import proofs.«01_k».proof.Proof.Execution
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- The kernel as printed: it runs, its arguments end as they were, every semaphore ends at zero. -/
theorem frame_kernel : Cert.quiescent_Kernel := fun m g _ =>
  (θ_run Cert.Kernel.defs _ _).mono
    (fun _ h => ⟨fun c => ⟨(h.1 c).1.1, (h.1 c).1.2.1, (h.1 c).2.1, (h.1 c).2.2⟩, h.2⟩) (Cert.Kernel.Ring.run (F := Bits) m g)

/-- The same of the idealized kernel, -/
theorem frame_ideal : Cert.quiescent_KernelIdeal := fun m g _ =>
  (θ_run Cert.KernelIdeal.defs _ _).mono
    (fun _ h => ⟨fun c => ⟨(h.1 c).1.1, (h.1 c).1.2.1, (h.1 c).2.1, (h.1 c).2.2⟩, h.2⟩) (Cert.KernelIdeal.Ring.run (F := Ideal) m g)

/-- and of the reference, which has no semaphore. -/
theorem frame_ref : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

/-- In exact arithmetic every device ends with the reference's result. -/
theorem value : Cert.algebraic_KernelIdeal_ReferenceIdeal := fun m g m' g' _ hagree => by
  refine ⟨Cert.KernelIdeal.Ring.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2) Cert.KernelIdeal.Ring.z1)
    (m' (((0 : Dev Cert.ReferenceIdeal.nD).tc : Thread Cert.ReferenceIdeal.nD Cert.ReferenceIdeal.τ).loc Cert.ReferenceIdeal.main_arg3) Cert.KernelIdeal.Ring.z1), ?_, ?_⟩
  · refine (θ_run Cert.KernelIdeal.defs _ _).mono (fun r h c => ⟨?_, (h.1 c).1.1, (h.1 c).1.2.1, (h.1 c).2.1, (h.1 c).2.2⟩)
      (Cert.KernelIdeal.Ring.run (F := Ideal) m g)
    exact Cert.KernelIdeal.Ring.whole_eq (Cert.KernelIdeal.Ring.ins m) _ _ (fun c => (hagree c).1) (fun c => (hagree c).2.1) _ _
      (fun c => (Cert.KernelIdeal.Ring.scale_x m c).trans (congrFun (hagree c).2.2.1 _))
      (fun c => (Cert.KernelIdeal.Ring.scale_w m c).trans (congrFun (hagree c).2.2.2 _)) _ (h.1 c).1.2.2.1
  · refine (θ_run Cert.ReferenceIdeal.defs _ _).mono (fun r h => ⟨(h 0).1.trans ?_, (h 0).2⟩)
      (Cert.ReferenceIdeal.Value.run (F := Ideal) m' g')
    exact Cert.KernelIdeal.Ring.ref_eq _ _ _ _

theorem claim : Cert.Claim := ⟨Cert.Kernel.Gen.facts, Cert.KernelIdeal.Gen.facts, Cert.ReferenceIdeal.Gen.facts,
  frame_kernel, frame_ideal, frame_ref, trivial, value⟩

end Cert.Proof

end
